-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x2048 : Shape := ⟨2, ![1024, 2048]⟩
abbrev S1024 : Shape := ⟨1, ![1024]⟩
abbrev S100000x2048 : Shape := ⟨2, ![100000, 2048]⟩
abbrev S100000x1024 : Shape := ⟨2, ![100000, 1024]⟩
abbrev S1000x2048 : Shape := ⟨2, ![1000, 2048]⟩
abbrev S1000x1024 : Shape := ⟨2, ![1000, 1024]⟩
abbrev S_ : Shape := ⟨0, ![]⟩
abbrev S744x2048 : Shape := ⟨2, ![744, 2048]⟩
abbrev S256x2048 : Shape := ⟨2, ![256, 2048]⟩
abbrev S1024x100000 : Shape := ⟨2, ![1024, 100000]⟩

abbrev nBuf : Space → Nat
  | .hbm => 6
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S1024, .i32⟩
  | .hbm, ⟨2, _⟩ => ⟨S100000x2048, .f32⟩
  | .hbm, ⟨3, _⟩ => ⟨S1024x2048, .bf16⟩
  | .hbm, ⟨4, _⟩ => ⟨S100000x1024, .f32⟩
  | .hbm, ⟨5, _⟩ => ⟨S1024x100000, .f32⟩
  | .local _ .vmem, ⟨0, _⟩ => ⟨S1024x2048, .bf16⟩
  | .local _ .vmem, ⟨1, _⟩ => ⟨S1000x2048, .f32⟩
  | .local _ .vmem, ⟨2, _⟩ => ⟨S1000x2048, .f32⟩
  | .local _ .vmem, ⟨3, _⟩ => ⟨S1000x2048, .f32⟩
  | .local _ .vmem, ⟨4, _⟩ => ⟨S1000x2048, .f32⟩
  | .local _ .vmem, ⟨5, _⟩ => ⟨S1000x1024, .f32⟩
  | .local _ .vmem, ⟨6, _⟩ => ⟨S1000x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩

abbrev nD : Nat := 1
abbrev τ : Topo := Topo.v7x

variable {F : FTy → Type} [FloatOps F]

abbrev grid0 : Pipeline.Grid := .none

@[reducible] def k0_t1_loop : Scf.Loop 32 :=
  let c0_i32_25 : BitVec 32 := 0#32
  let c25_i32 : BitVec 32 := 25#32
  let v17 : BitVec 32 := Scalar.addi c0_i32_25 c25_i32
  let c1_i32 : BitVec 32 := 1#32
  ⟨c0_i32_25, v17, c1_i32⟩
def k0_cond1 (k0_t1 : Fin k0_t1_loop.trips) : BitVec 1 :=
  let c0_i32_25 : BitVec 32 := 0#32
  let c1_i32 : BitVec 32 := 1#32
  let arg21 : BitVec 32 := Scf.iv c0_i32_25 c1_i32 k0_t1
  let c0_i32_27 : BitVec 32 := 0#32
  let v19 : BitVec 1 := Scalar.cmpi .sgt arg21 c0_i32_27
  let v20 : BitVec 32 := Scalar.extui v19
  let c0_i32_28 : BitVec 32 := 0#32
  let v21 : BitVec 1 := Scalar.cmpi .ne v20 c0_i32_28
  v21

def k0_off1 (k0_t1 : Fin k0_t1_loop.trips) : Fin 2 → Nat :=
  let c4_i32 : BitVec 32 := 4#32
  let c0_i32_25 : BitVec 32 := 0#32
  let c1_i32 : BitVec 32 := 1#32
  let arg21 : BitVec 32 := Scf.iv c0_i32_25 c1_i32 k0_t1
  let v18 : BitVec 32 := Scalar.muli c4_i32 arg21
  let c2_i32_118 : BitVec 32 := 2#32
  let v116 : BitVec 32 := Scalar.subi v18 c2_i32_118
  let c1000_i32_119 : BitVec 32 := 1000#32
  let v117 : BitVec 32 := Scalar.muli v116 c1000_i32_119
  let c0_i32_120 : BitVec 32 := 0#32
  ![v117.toNat, 0]
def k0_off2 (k0_t1 : Fin k0_t1_loop.trips) : Fin 2 → Nat :=
  let c4_i32 : BitVec 32 := 4#32
  let c0_i32_25 : BitVec 32 := 0#32
  let c1_i32 : BitVec 32 := 1#32
  let arg21 : BitVec 32 := Scf.iv c0_i32_25 c1_i32 k0_t1
  let v18 : BitVec 32 := Scalar.muli c4_i32 arg21
  let c1000_i32_29 : BitVec 32 := 1000#32
  let v22 : BitVec 32 := Scalar.muli v18 c1000_i32_29
  let c0_i32_34 : BitVec 32 := 0#32
  ![v22.toNat, 0]
def k0_off3 (k0_t1 : Fin k0_t1_loop.trips) : Fin 2 → Nat :=
  let c4_i32 : BitVec 32 := 4#32
  let c0_i32_25 : BitVec 32 := 0#32
  let c1_i32 : BitVec 32 := 1#32
  let arg21 : BitVec 32 := Scf.iv c0_i32_25 c1_i32 k0_t1
  let v18 : BitVec 32 := Scalar.muli c4_i32 arg21
  let c1000_i32_30 : BitVec 32 := 1000#32
  let v23 : BitVec 32 := Scalar.muli v18 c1000_i32_30
  let c744_i32_31 : BitVec 32 := 744#32
  let v24 : BitVec 32 := Scalar.addi v23 c744_i32_31
  let c0_i32_37 : BitVec 32 := 0#32
  ![v24.toNat, 0]
def k0_off4 (k0_t1 : Fin k0_t1_loop.trips) : Fin 2 → Nat :=
  let c4_i32 : BitVec 32 := 4#32
  let c0_i32_25 : BitVec 32 := 0#32
  let c1_i32 : BitVec 32 := 1#32
  let arg21 : BitVec 32 := Scf.iv c0_i32_25 c1_i32 k0_t1
  let v18 : BitVec 32 := Scalar.muli c4_i32 arg21
  let c1000_i32_42 : BitVec 32 := 1000#32
  let v35 : BitVec 32 := Scalar.muli v18 c1000_i32_42
  let c0_i32_43 : BitVec 32 := 0#32
  ![v35.toNat, 0]
def k0_cond2 (k0_t1 : Fin k0_t1_loop.trips) : BitVec 1 :=
  let c0_i32_25 : BitVec 32 := 0#32
  let c1_i32 : BitVec 32 := 1#32
  let arg21 : BitVec 32 := Scf.iv c0_i32_25 c1_i32 k0_t1
  let c1_i32_44 : BitVec 32 := 1#32
  let v37 : BitVec 32 := Scalar.addi arg21 c1_i32_44
  let c25_i32_45 : BitVec 32 := 25#32
  let v38 : BitVec 1 := Scalar.cmpi .slt v37 c25_i32_45
  let v39 : BitVec 32 := Scalar.extui v38
  let c0_i32_46 : BitVec 32 := 0#32
  let v40 : BitVec 1 := Scalar.cmpi .ne v39 c0_i32_46
  v40

def k0_off5 (k0_t1 : Fin k0_t1_loop.trips) : Fin 2 → Nat :=
  let c4_i32 : BitVec 32 := 4#32
  let c0_i32_25 : BitVec 32 := 0#32
  let c1_i32 : BitVec 32 := 1#32
  let arg21 : BitVec 32 := Scf.iv c0_i32_25 c1_i32 k0_t1
  let v18 : BitVec 32 := Scalar.muli c4_i32 arg21
  let c4_i32_118 : BitVec 32 := 4#32
  let v116 : BitVec 32 := Scalar.addi v18 c4_i32_118
  let c1000_i32_119 : BitVec 32 := 1000#32
  let v117 : BitVec 32 := Scalar.muli v116 c1000_i32_119
  let c0_i32_124 : BitVec 32 := 0#32
  ![v117.toNat, 0]
def k0_off6 (k0_t1 : Fin k0_t1_loop.trips) : Fin 2 → Nat :=
  let c4_i32 : BitVec 32 := 4#32
  let c0_i32_25 : BitVec 32 := 0#32
  let c1_i32 : BitVec 32 := 1#32
  let arg21 : BitVec 32 := Scf.iv c0_i32_25 c1_i32 k0_t1
  let v18 : BitVec 32 := Scalar.muli c4_i32 arg21
  let c4_i32_118 : BitVec 32 := 4#32
  let v116 : BitVec 32 := Scalar.addi v18 c4_i32_118
  let c1000_i32_120 : BitVec 32 := 1000#32
  let v118 : BitVec 32 := Scalar.muli v116 c1000_i32_120
  let c744_i32_121 : BitVec 32 := 744#32
  let v119 : BitVec 32 := Scalar.addi v118 c744_i32_121
  let c0_i32_127 : BitVec 32 := 0#32
  ![v119.toNat, 0]
def k0_cond3 (k0_t1 : Fin k0_t1_loop.trips) : BitVec 1 :=
  let c0_i32_25 : BitVec 32 := 0#32
  let c1_i32 : BitVec 32 := 1#32
  let arg21 : BitVec 32 := Scf.iv c0_i32_25 c1_i32 k0_t1
  let c0_i32_47 : BitVec 32 := 0#32
  let v41 : BitVec 1 := Scalar.cmpi .sgt arg21 c0_i32_47
  let v42 : BitVec 32 := Scalar.extui v41
  let c0_i32_48 : BitVec 32 := 0#32
  let v43 : BitVec 1 := Scalar.cmpi .ne v42 c0_i32_48
  v43

def k0_off7 (k0_t1 : Fin k0_t1_loop.trips) : Fin 2 → Nat :=
  let c4_i32 : BitVec 32 := 4#32
  let c0_i32_25 : BitVec 32 := 0#32
  let c1_i32 : BitVec 32 := 1#32
  let arg21 : BitVec 32 := Scf.iv c0_i32_25 c1_i32 k0_t1
  let v18 : BitVec 32 := Scalar.muli c4_i32 arg21
  let c1_i32_118 : BitVec 32 := 1#32
  let v116 : BitVec 32 := Scalar.subi v18 c1_i32_118
  let c1000_i32_119 : BitVec 32 := 1000#32
  let v117 : BitVec 32 := Scalar.muli v116 c1000_i32_119
  let c0_i32_120 : BitVec 32 := 0#32
  ![v117.toNat, 0]
def k0_off8 (k0_t1 : Fin k0_t1_loop.trips) (c1_i32_49 : BitVec 32) : Fin 2 → Nat :=
  let c4_i32 : BitVec 32 := 4#32
  let c0_i32_25 : BitVec 32 := 0#32
  let c1_i32 : BitVec 32 := 1#32
  let arg21 : BitVec 32 := Scf.iv c0_i32_25 c1_i32 k0_t1
  let v18 : BitVec 32 := Scalar.muli c4_i32 arg21
  let v44 : BitVec 32 := Scalar.addi v18 c1_i32_49
  let c1000_i32_50 : BitVec 32 := 1000#32
  let v45 : BitVec 32 := Scalar.muli v44 c1000_i32_50
  let c0_i32_55 : BitVec 32 := 0#32
  ![v45.toNat, 0]
def k0_off9 (k0_t1 : Fin k0_t1_loop.trips) (c1_i32_49 : BitVec 32) : Fin 2 → Nat :=
  let c4_i32 : BitVec 32 := 4#32
  let c0_i32_25 : BitVec 32 := 0#32
  let c1_i32 : BitVec 32 := 1#32
  let arg21 : BitVec 32 := Scf.iv c0_i32_25 c1_i32 k0_t1
  let v18 : BitVec 32 := Scalar.muli c4_i32 arg21
  let v44 : BitVec 32 := Scalar.addi v18 c1_i32_49
  let c1000_i32_51 : BitVec 32 := 1000#32
  let v46 : BitVec 32 := Scalar.muli v44 c1000_i32_51
  let c744_i32_52 : BitVec 32 := 744#32
  let v47 : BitVec 32 := Scalar.addi v46 c744_i32_52
  let c0_i32_58 : BitVec 32 := 0#32
  ![v47.toNat, 0]
def k0_off10 (k0_t1 : Fin k0_t1_loop.trips) (c1_i32_64 : BitVec 32) : Fin 2 → Nat :=
  let c4_i32 : BitVec 32 := 4#32
  let c0_i32_25 : BitVec 32 := 0#32
  let c1_i32 : BitVec 32 := 1#32
  let arg21 : BitVec 32 := Scf.iv c0_i32_25 c1_i32 k0_t1
  let v18 : BitVec 32 := Scalar.muli c4_i32 arg21
  let v58 : BitVec 32 := Scalar.addi v18 c1_i32_64
  let c1000_i32_65 : BitVec 32 := 1000#32
  let v59 : BitVec 32 := Scalar.muli v58 c1000_i32_65
  let c0_i32_66 : BitVec 32 := 0#32
  ![v59.toNat, 0]
def k0_cond4 (k0_t1 : Fin k0_t1_loop.trips) : BitVec 1 :=
  let c0_i32_25 : BitVec 32 := 0#32
  let c1_i32 : BitVec 32 := 1#32
  let arg21 : BitVec 32 := Scf.iv c0_i32_25 c1_i32 k0_t1
  let c1_i32_67 : BitVec 32 := 1#32
  let v61 : BitVec 32 := Scalar.addi arg21 c1_i32_67
  let c25_i32_68 : BitVec 32 := 25#32
  let v62 : BitVec 1 := Scalar.cmpi .slt v61 c25_i32_68
  let v63 : BitVec 32 := Scalar.extui v62
  let c0_i32_69 : BitVec 32 := 0#32
  let v64 : BitVec 1 := Scalar.cmpi .ne v63 c0_i32_69
  v64

def k0_off11 (k0_t1 : Fin k0_t1_loop.trips) : Fin 2 → Nat :=
  let c4_i32 : BitVec 32 := 4#32
  let c0_i32_25 : BitVec 32 := 0#32
  let c1_i32 : BitVec 32 := 1#32
  let arg21 : BitVec 32 := Scf.iv c0_i32_25 c1_i32 k0_t1
  let v18 : BitVec 32 := Scalar.muli c4_i32 arg21
  let c5_i32 : BitVec 32 := 5#32
  let v116 : BitVec 32 := Scalar.addi v18 c5_i32
  let c1000_i32_118 : BitVec 32 := 1000#32
  let v117 : BitVec 32 := Scalar.muli v116 c1000_i32_118
  let c0_i32_123 : BitVec 32 := 0#32
  ![v117.toNat, 0]
def k0_off12 (k0_t1 : Fin k0_t1_loop.trips) : Fin 2 → Nat :=
  let c4_i32 : BitVec 32 := 4#32
  let c0_i32_25 : BitVec 32 := 0#32
  let c1_i32 : BitVec 32 := 1#32
  let arg21 : BitVec 32 := Scf.iv c0_i32_25 c1_i32 k0_t1
  let v18 : BitVec 32 := Scalar.muli c4_i32 arg21
  let c5_i32 : BitVec 32 := 5#32
  let v116 : BitVec 32 := Scalar.addi v18 c5_i32
  let c1000_i32_119 : BitVec 32 := 1000#32
  let v118 : BitVec 32 := Scalar.muli v116 c1000_i32_119
  let c744_i32_120 : BitVec 32 := 744#32
  let v119 : BitVec 32 := Scalar.addi v118 c744_i32_120
  let c0_i32_126 : BitVec 32 := 0#32
  ![v119.toNat, 0]
def k0_cond5 (k0_t1 : Fin k0_t1_loop.trips) : BitVec 1 :=
  let c0_i32_25 : BitVec 32 := 0#32
  let c1_i32 : BitVec 32 := 1#32
  let arg21 : BitVec 32 := Scf.iv c0_i32_25 c1_i32 k0_t1
  let c1_i32_89 : BitVec 32 := 1#32
  let v84 : BitVec 32 := Scalar.addi arg21 c1_i32_89
  let c25_i32_90 : BitVec 32 := 25#32
  let v85 : BitVec 1 := Scalar.cmpi .slt v84 c25_i32_90
  let v86 : BitVec 32 := Scalar.extui v85
  let c0_i32_91 : BitVec 32 := 0#32
  let v87 : BitVec 1 := Scalar.cmpi .ne v86 c0_i32_91
  v87

def k0_off13 (k0_t1 : Fin k0_t1_loop.trips) : Fin 2 → Nat :=
  let c4_i32 : BitVec 32 := 4#32
  let c0_i32_25 : BitVec 32 := 0#32
  let c1_i32 : BitVec 32 := 1#32
  let arg21 : BitVec 32 := Scf.iv c0_i32_25 c1_i32 k0_t1
  let v18 : BitVec 32 := Scalar.muli c4_i32 arg21
  let c6_i32 : BitVec 32 := 6#32
  let v116 : BitVec 32 := Scalar.addi v18 c6_i32
  let c1000_i32_118 : BitVec 32 := 1000#32
  let v117 : BitVec 32 := Scalar.muli v116 c1000_i32_118
  let c0_i32_123 : BitVec 32 := 0#32
  ![v117.toNat, 0]
def k0_off14 (k0_t1 : Fin k0_t1_loop.trips) : Fin 2 → Nat :=
  let c4_i32 : BitVec 32 := 4#32
  let c0_i32_25 : BitVec 32 := 0#32
  let c1_i32 : BitVec 32 := 1#32
  let arg21 : BitVec 32 := Scf.iv c0_i32_25 c1_i32 k0_t1
  let v18 : BitVec 32 := Scalar.muli c4_i32 arg21
  let c6_i32 : BitVec 32 := 6#32
  let v116 : BitVec 32 := Scalar.addi v18 c6_i32
  let c1000_i32_119 : BitVec 32 := 1000#32
  let v118 : BitVec 32 := Scalar.muli v116 c1000_i32_119
  let c744_i32_120 : BitVec 32 := 744#32
  let v119 : BitVec 32 := Scalar.addi v118 c744_i32_120
  let c0_i32_126 : BitVec 32 := 0#32
  ![v119.toNat, 0]
def k0_cond6 (k0_t1 : Fin k0_t1_loop.trips) : BitVec 1 :=
  let c0_i32_25 : BitVec 32 := 0#32
  let c1_i32 : BitVec 32 := 1#32
  let arg21 : BitVec 32 := Scf.iv c0_i32_25 c1_i32 k0_t1
  let c1_i32_112 : BitVec 32 := 1#32
  let v108 : BitVec 32 := Scalar.addi arg21 c1_i32_112
  let c25_i32_113 : BitVec 32 := 25#32
  let v109 : BitVec 1 := Scalar.cmpi .slt v108 c25_i32_113
  let v110 : BitVec 32 := Scalar.extui v109
  let c0_i32_114 : BitVec 32 := 0#32
  let v111 : BitVec 1 := Scalar.cmpi .ne v110 c0_i32_114
  v111

def k0_off15 (k0_t1 : Fin k0_t1_loop.trips) : Fin 2 → Nat :=
  let c4_i32 : BitVec 32 := 4#32
  let c0_i32_25 : BitVec 32 := 0#32
  let c1_i32 : BitVec 32 := 1#32
  let arg21 : BitVec 32 := Scf.iv c0_i32_25 c1_i32 k0_t1
  let v18 : BitVec 32 := Scalar.muli c4_i32 arg21
  let c7_i32 : BitVec 32 := 7#32
  let v116 : BitVec 32 := Scalar.addi v18 c7_i32
  let c1000_i32_118 : BitVec 32 := 1000#32
  let v117 : BitVec 32 := Scalar.muli v116 c1000_i32_118
  let c0_i32_123 : BitVec 32 := 0#32
  ![v117.toNat, 0]
def k0_off16 (k0_t1 : Fin k0_t1_loop.trips) : Fin 2 → Nat :=
  let c4_i32 : BitVec 32 := 4#32
  let c0_i32_25 : BitVec 32 := 0#32
  let c1_i32 : BitVec 32 := 1#32
  let arg21 : BitVec 32 := Scf.iv c0_i32_25 c1_i32 k0_t1
  let v18 : BitVec 32 := Scalar.muli c4_i32 arg21
  let c7_i32 : BitVec 32 := 7#32
  let v116 : BitVec 32 := Scalar.addi v18 c7_i32
  let c1000_i32_119 : BitVec 32 := 1000#32
  let v118 : BitVec 32 := Scalar.muli v116 c1000_i32_119
  let c744_i32_120 : BitVec 32 := 744#32
  let v119 : BitVec 32 := Scalar.addi v118 c744_i32_120
  let c0_i32_126 : BitVec 32 := 0#32
  ![v119.toNat, 0]
def k0_cond7 (k0_t1 : Fin k0_t1_loop.trips) : BitVec 1 :=
  let c0_i32_25 : BitVec 32 := 0#32
  let c1_i32 : BitVec 32 := 1#32
  let arg21 : BitVec 32 := Scf.iv c0_i32_25 c1_i32 k0_t1
  let c1_i32_115 : BitVec 32 := 1#32
  let v112 : BitVec 32 := Scalar.addi arg21 c1_i32_115
  let c25_i32_116 : BitVec 32 := 25#32
  let v113 : BitVec 1 := Scalar.cmpi .eq v112 c25_i32_116
  let v114 : BitVec 32 := Scalar.extui v113
  let c0_i32_117 : BitVec 32 := 0#32
  let v115 : BitVec 1 := Scalar.cmpi .ne v114 c0_i32_117
  v115

def k0_off17 (k0_t1 : Fin k0_t1_loop.trips) (c2_i32_118 : BitVec 32) : Fin 2 → Nat :=
  let c4_i32 : BitVec 32 := 4#32
  let c0_i32_25 : BitVec 32 := 0#32
  let c1_i32 : BitVec 32 := 1#32
  let arg21 : BitVec 32 := Scf.iv c0_i32_25 c1_i32 k0_t1
  let v18 : BitVec 32 := Scalar.muli c4_i32 arg21
  let v116 : BitVec 32 := Scalar.addi v18 c2_i32_118
  let c1000_i32_119 : BitVec 32 := 1000#32
  let v117 : BitVec 32 := Scalar.muli v116 c1000_i32_119
  let c0_i32_120 : BitVec 32 := 0#32
  ![v117.toNat, 0]
-- ==== ReferenceIdeal.lean ====
abbrev S1024x2048 : Shape := ⟨2, ![1024, 2048]⟩
abbrev S1024 : Shape := ⟨1, ![1024]⟩
abbrev S100000x2048 : Shape := ⟨2, ![100000, 2048]⟩
abbrev S2048x100000 : Shape := ⟨2, ![2048, 100000]⟩
abbrev S1024x100000 : Shape := ⟨2, ![1024, 100000]⟩

abbrev nBuf : Space → Nat
  | .hbm => 5
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024, .i32⟩
  | .hbm, ⟨2, _⟩ => ⟨S100000x2048, .f32⟩
  | .hbm, ⟨3, _⟩ => ⟨S2048x100000, .f32⟩
  | .hbm, ⟨4, _⟩ => ⟨S1024x100000, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.IdealShape.lean ====
/-
  The geometry of the kernel's transfers and the closed forms of its index arithmetic.

  The kernel walks the 100000 rows of the lookup table in 100 blocks of 1000 rows. A block arrives in two pieces
  (744 rows and 256 rows), its product with the activations leaves as one block of 1000 rows of the result. This file
  names those pieces by the block's number, says which rows each of them covers, and splits a buffer held on a range of
  rows at a row.
-/
module

public import proofs.«01_k».proof.Proof.Shape
public import proofs.«01_k».proof.Defs
public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameSuffixV
public import Idealize.ShloMosaic.Lib.Ring
public import Idealize.ShloMosaic.Lib.Affine
public import Idealize.ShloMosaic.Lib.Tactic

@[expose] public section

set_option maxRecDepth 16384

noncomputable section

namespace Cert.KernelIdeal.Walk

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The loop's conditions and remaining offsets, decided over the 25 trips -/

/-- The loop runs 25 trips. -/
theorem trips_eq : k0_t1_loop.trips = 25 := by decide +kernel

/-- The first guard holds exactly from the second trip on. -/
theorem cond1_iff : ∀ k : Fin k0_t1_loop.trips, k0_cond1 k = 1#1 ↔ 0 < k.val := by decide +kernel
/-- The prefetch guard of the first slot holds exactly before the last trip. -/
theorem cond2_iff : ∀ k : Fin k0_t1_loop.trips, k0_cond2 k = 1#1 ↔ k.val + 1 < 25 := by decide +kernel
/-- The guard on the second staging buffer's wait holds exactly from the second trip on. -/
theorem cond3_iff : ∀ k : Fin k0_t1_loop.trips, k0_cond3 k = 1#1 ↔ 0 < k.val := by decide +kernel
/-- The prefetch guard of the second slot holds exactly before the last trip. -/
theorem cond4_iff : ∀ k : Fin k0_t1_loop.trips, k0_cond4 k = 1#1 ↔ k.val + 1 < 25 := by decide +kernel
/-- The prefetch guard of the third slot holds exactly before the last trip. -/
theorem cond5_iff : ∀ k : Fin k0_t1_loop.trips, k0_cond5 k = 1#1 ↔ k.val + 1 < 25 := by decide +kernel
/-- The prefetch guard of the fourth slot holds exactly before the last trip. -/
theorem cond6_iff : ∀ k : Fin k0_t1_loop.trips, k0_cond6 k = 1#1 ↔ k.val + 1 < 25 := by decide +kernel
/-- The guard on the closing waits holds exactly in the last trip. -/
theorem cond7_iff : ∀ k : Fin k0_t1_loop.trips, k0_cond7 k = 1#1 ↔ k.val + 1 = 25 := by decide +kernel

/-- From the second trip on, the first wait names block `4 k - 2` of the result. -/
theorem off1_closed : ∀ k : Fin k0_t1_loop.trips, 0 < k.val → k0_off1 k = ![1000 * (4 * k.val - 2), 0] := by decide +kernel
/-- From the second trip on, the second wait names block `4 k - 1` of the result. -/
theorem off7_closed : ∀ k : Fin k0_t1_loop.trips, 0 < k.val → k0_off7 k = ![1000 * (4 * k.val - 1), 0] := by decide +kernel

/-! ## The buffers -/

/-- The table, in main memory. -/
abbrev lutM : Memref sig .tc .hbm S100000x2048 .f32 := Memref.whole main_arg2
/-- The result before it is turned, in main memory. -/
abbrev outM : Memref sig .tc .hbm S100000x1024 .f32 := Memref.whole main_v1
/-- The rounded activations, in main memory. -/
abbrev actM : Memref sig .tc .hbm S1024x2048 .bf16 := Memref.whole main_v0
/-- The kernel's own copy of the activations. -/
abbrev xM : Memref sig .tc .vmem S1024x2048 .bf16 := Memref.whole cc0_scratch0
/-- The table's slot 0. -/
abbrev l0M : Memref sig .tc .vmem S1000x2048 .f32 := Memref.whole cc0_scratch1
/-- The table's slot 1. -/
abbrev l1M : Memref sig .tc .vmem S1000x2048 .f32 := Memref.whole cc0_scratch2
/-- The table's slot 2. -/
abbrev l2M : Memref sig .tc .vmem S1000x2048 .f32 := Memref.whole cc0_scratch3
/-- The table's slot 3. -/
abbrev l3M : Memref sig .tc .vmem S1000x2048 .f32 := Memref.whole cc0_scratch4
/-- The result's staging buffer 0. -/
abbrev o0M : Memref sig .tc .vmem S1000x1024 .f32 := Memref.whole cc0_scratch5
/-- The result's staging buffer 1. -/
abbrev o1M : Memref sig .tc .vmem S1000x1024 .f32 := Memref.whole cc0_scratch6

/-! ## The pieces, by block number -/

/-- Where a block begins, in the table and in the result. -/
abbrev offA (n : ℕ) : Fin 2 → Nat := ![1000 * (n % 100), 0]
/-- Where the second piece of a block of the table begins. -/
abbrev offB (n : ℕ) : Fin 2 → Nat := ![1000 * (n % 100) + 744, 0]

/-- The first 744 rows of a block lie inside the table. -/
theorem offA_lut (n : ℕ) : ∀ a, offA n a + S744x2048.size a ≤ S100000x2048.size a := by
  have := Nat.mod_lt n (show 0 < 100 by decide)
  intro a; fin_cases a
  · show 1000 * (n % 100) + 744 ≤ 100000; omega
  · show 0 + 2048 ≤ 2048; omega
/-- The last 256 rows of a block lie inside the table. -/
theorem offB_lut (n : ℕ) : ∀ a, offB n a + S256x2048.size a ≤ S100000x2048.size a := by
  have := Nat.mod_lt n (show 0 < 100 by decide)
  intro a; fin_cases a
  · show 1000 * (n % 100) + 744 + 256 ≤ 100000; omega
  · show 0 + 2048 ≤ 2048; omega
/-- A whole block of 1000 rows lies inside the table. -/
theorem offA_all (n : ℕ) : ∀ a, offA n a + S1000x2048.size a ≤ S100000x2048.size a := by
  have := Nat.mod_lt n (show 0 < 100 by decide)
  intro a; fin_cases a
  · show 1000 * (n % 100) + 1000 ≤ 100000; omega
  · show 0 + 2048 ≤ 2048; omega
/-- A whole block of 1000 rows lies inside the result. -/
theorem offA_out (n : ℕ) : ∀ a, offA n a + S1000x1024.size a ≤ S100000x1024.size a := by
  have := Nat.mod_lt n (show 0 < 100 by decide)
  intro a; fin_cases a
  · show 1000 * (n % 100) + 1000 ≤ 100000; omega
  · show 0 + 1024 ≤ 1024; omega

/-- The first 744 rows of block `n` of the table. -/
def lutA (n : ℕ) : Memref sig .tc .hbm S744x2048 .f32 :=
  lutM.slice (Rect.unit (s := S100000x2048) (offA n) S744x2048.size (offA_lut n)) (fun _ => rfl)
/-- The last 256 rows of block `n` of the table. -/
def lutB (n : ℕ) : Memref sig .tc .hbm S256x2048 .f32 :=
  lutM.slice (Rect.unit (s := S100000x2048) (offB n) S256x2048.size (offB_lut n)) (fun _ => rfl)
/-- The 1000 rows of block `n` of the table. -/
def lutN (n : ℕ) : Memref sig .tc .hbm S1000x2048 .f32 :=
  lutM.slice (Rect.unit (s := S100000x2048) (offA n) S1000x2048.size (offA_all n)) (fun _ => rfl)
/-- Block `n` of the result. -/
def outN (n : ℕ) : Memref sig .tc .hbm S1000x1024 .f32 :=
  outM.slice (Rect.unit (s := S100000x1024) (offA n) S1000x1024.size (offA_out n)) (fun _ => rfl)

/-- The first 744 rows of a slot. -/
abbrev topA (b : Memref sig .tc .vmem S1000x2048 .f32) : Memref sig .tc .vmem S744x2048 .f32 :=
  b.slice (Rect.unit (s := S1000x2048) ![0, 0] S744x2048.size inb_S1000x2048_S744x2048_0_0) (fun _ => rfl)
/-- The last 256 rows of a slot. -/
abbrev botB (b : Memref sig .tc .vmem S1000x2048 .f32) : Memref sig .tc .vmem S256x2048 .f32 :=
  b.slice (Rect.unit (s := S1000x2048) ![744, 0] S256x2048.size inb_S1000x2048_S256x2048_744_0) (fun _ => rfl)

/-! ## The body's slices are those pieces -/

/-- A slice of 744 rows at the start of block `n` is the block's first piece. -/
private theorem lutA_name {off : Fin 2 → Nat} {n : ℕ} (e : off = offA n) (hh hs) :
    lutM.slice (Rect.unit (s := S100000x2048) off S744x2048.size hh) hs = lutA n := Memref.slice_unit_congr _ e _ (offA_lut n) _ (fun _ => rfl)
/-- A slice of 256 rows at row 744 of block `n` is the block's second piece. -/
private theorem lutB_name {off : Fin 2 → Nat} {n : ℕ} (e : off = offB n) (hh hs) :
    lutM.slice (Rect.unit (s := S100000x2048) off S256x2048.size hh) hs = lutB n := Memref.slice_unit_congr _ e _ (offB_lut n) _ (fun _ => rfl)
/-- A slice of 1000 rows of the result at the start of block `n` is that block. -/
private theorem outN_name {off : Fin 2 → Nat} {n : ℕ} (e : off = offA n) (hh hs) :
    outM.slice (Rect.unit (s := S100000x1024) off S1000x1024.size hh) hs = outN n := Memref.slice_unit_congr _ e _ (offA_out n) _ (fun _ => rfl)

/-- An offset of `1000 j` rows is block `n`'s when `j` is `n` and there are that many blocks. -/
theorem offA_of {x n : ℕ} (h : x = 1000 * n) (hn : n < 100) : (![x, 0] : Fin 2 → Nat) = offA n := by
  rw [h]; unfold offA; rw [Nat.mod_eq_of_lt hn]
/-- Row `1000 n + 744` is where the second piece of block `n` begins. -/
theorem offB_of {x n : ℕ} (h : x = 1000 * n + 744) (hn : n < 100) : (![x, 0] : Fin 2 → Nat) = offB n := by
  rw [h]; unfold offB; rw [Nat.mod_eq_of_lt hn]

/-- The loop has 25 trips. -/
theorem trip_lt (k : Fin k0_t1_loop.trips) : k.val < 25 := Nat.lt_of_lt_of_eq k.isLt trips_eq

section Names
variable (k : Fin k0_t1_loop.trips)

@[sl_canon] theorem lit0a (hh hs) : lutM.slice (Rect.unit (s := S100000x2048) ![0, 0] S744x2048.size hh) hs = lutA 0 := lutA_name (offA_of (n := 0) rfl (by decide)) _ _
@[sl_canon] theorem lit0b (hh hs) : lutM.slice (Rect.unit (s := S100000x2048) ![744, 0] S256x2048.size hh) hs = lutB 0 := lutB_name (offB_of (n := 0) rfl (by decide)) _ _
@[sl_canon] theorem lit1a (hh hs) : lutM.slice (Rect.unit (s := S100000x2048) ![1000, 0] S744x2048.size hh) hs = lutA 1 := lutA_name (offA_of (n := 1) rfl (by decide)) _ _
@[sl_canon] theorem lit1b (hh hs) : lutM.slice (Rect.unit (s := S100000x2048) ![1744, 0] S256x2048.size hh) hs = lutB 1 := lutB_name (offB_of (n := 1) rfl (by decide)) _ _
@[sl_canon] theorem lit2a (hh hs) : lutM.slice (Rect.unit (s := S100000x2048) ![2000, 0] S744x2048.size hh) hs = lutA 2 := lutA_name (offA_of (n := 2) rfl (by decide)) _ _
@[sl_canon] theorem lit2b (hh hs) : lutM.slice (Rect.unit (s := S100000x2048) ![2744, 0] S256x2048.size hh) hs = lutB 2 := lutB_name (offB_of (n := 2) rfl (by decide)) _ _
@[sl_canon] theorem lit3a (hh hs) : lutM.slice (Rect.unit (s := S100000x2048) ![3000, 0] S744x2048.size hh) hs = lutA 3 := lutA_name (offA_of (n := 3) rfl (by decide)) _ _
@[sl_canon] theorem lit3b (hh hs) : lutM.slice (Rect.unit (s := S100000x2048) ![3744, 0] S256x2048.size hh) hs = lutB 3 := lutB_name (offB_of (n := 3) rfl (by decide)) _ _

@[sl_canon] theorem got0a (hh hs) : lutM.slice (Rect.unit (s := S100000x2048) (k0_off2 k) S744x2048.size hh) hs = lutA (4 * k.val) :=
  have := trip_lt k; lutA_name ((k0_off2_eq k).trans (offA_of (by omega) (by omega))) _ _
@[sl_canon] theorem got0b (hh hs) : lutM.slice (Rect.unit (s := S100000x2048) (k0_off3 k) S256x2048.size hh) hs = lutB (4 * k.val) :=
  have := trip_lt k; lutB_name ((k0_off3_eq k).trans (offB_of (by omega) (by omega))) _ _
@[sl_canon] theorem got1a (hh hs) : lutM.slice (Rect.unit (s := S100000x2048) (k0_off8 k 1#32) S744x2048.size hh) hs = lutA (4 * k.val + 1) :=
  have := trip_lt k; lutA_name ((k0_off8_eq k 0).trans (offA_of (by show 4000 * k.val + 1000 * 0 + 1000 = _; omega) (by omega))) _ _
@[sl_canon] theorem got1b (hh hs) : lutM.slice (Rect.unit (s := S100000x2048) (k0_off9 k 1#32) S256x2048.size hh) hs = lutB (4 * k.val + 1) :=
  have := trip_lt k; lutB_name ((k0_off9_eq k 0).trans (offB_of (by show 4000 * k.val + 1000 * 0 + 1744 = _; omega) (by omega))) _ _
@[sl_canon] theorem got2a (hh hs) : lutM.slice (Rect.unit (s := S100000x2048) (k0_off8 k 2#32) S744x2048.size hh) hs = lutA (4 * k.val + 2) :=
  have := trip_lt k; lutA_name ((k0_off8_eq k 1).trans (offA_of (by show 4000 * k.val + 1000 * 1 + 1000 = _; omega) (by omega))) _ _
@[sl_canon] theorem got2b (hh hs) : lutM.slice (Rect.unit (s := S100000x2048) (k0_off9 k 2#32) S256x2048.size hh) hs = lutB (4 * k.val + 2) :=
  have := trip_lt k; lutB_name ((k0_off9_eq k 1).trans (offB_of (by show 4000 * k.val + 1000 * 1 + 1744 = _; omega) (by omega))) _ _
@[sl_canon] theorem got3a (hh hs) : lutM.slice (Rect.unit (s := S100000x2048) (k0_off8 k 3#32) S744x2048.size hh) hs = lutA (4 * k.val + 3) :=
  have := trip_lt k; lutA_name ((k0_off8_eq k 2).trans (offA_of (by show 4000 * k.val + 1000 * 2 + 1000 = _; omega) (by omega))) _ _
@[sl_canon] theorem got3b (hh hs) : lutM.slice (Rect.unit (s := S100000x2048) (k0_off9 k 3#32) S256x2048.size hh) hs = lutB (4 * k.val + 3) :=
  have := trip_lt k; lutB_name ((k0_off9_eq k 2).trans (offB_of (by show 4000 * k.val + 1000 * 2 + 1744 = _; omega) (by omega))) _ _

@[sl_canon] theorem ask0a (hk : k.val + 1 < 25) (hh hs) : lutM.slice (Rect.unit (s := S100000x2048) (k0_off5 k) S744x2048.size hh) hs = lutA (4 * k.val + 4) :=
  lutA_name ((k0_off5_eq k).trans (offA_of (by omega) (by omega))) _ _
@[sl_canon] theorem ask0b (hk : k.val + 1 < 25) (hh hs) : lutM.slice (Rect.unit (s := S100000x2048) (k0_off6 k) S256x2048.size hh) hs = lutB (4 * k.val + 4) :=
  lutB_name ((k0_off6_eq k).trans (offB_of (by omega) (by omega))) _ _
@[sl_canon] theorem ask1a (hk : k.val + 1 < 25) (hh hs) : lutM.slice (Rect.unit (s := S100000x2048) (k0_off11 k) S744x2048.size hh) hs = lutA (4 * k.val + 5) :=
  lutA_name ((k0_off11_eq k).trans (offA_of (by omega) (by omega))) _ _
@[sl_canon] theorem ask1b (hk : k.val + 1 < 25) (hh hs) : lutM.slice (Rect.unit (s := S100000x2048) (k0_off12 k) S256x2048.size hh) hs = lutB (4 * k.val + 5) :=
  lutB_name ((k0_off12_eq k).trans (offB_of (by omega) (by omega))) _ _
@[sl_canon] theorem ask2a (hk : k.val + 1 < 25) (hh hs) : lutM.slice (Rect.unit (s := S100000x2048) (k0_off13 k) S744x2048.size hh) hs = lutA (4 * k.val + 6) :=
  lutA_name ((k0_off13_eq k).trans (offA_of (by omega) (by omega))) _ _
@[sl_canon] theorem ask2b (hk : k.val + 1 < 25) (hh hs) : lutM.slice (Rect.unit (s := S100000x2048) (k0_off14 k) S256x2048.size hh) hs = lutB (4 * k.val + 6) :=
  lutB_name ((k0_off14_eq k).trans (offB_of (by omega) (by omega))) _ _
@[sl_canon] theorem ask3a (hk : k.val + 1 < 25) (hh hs) : lutM.slice (Rect.unit (s := S100000x2048) (k0_off15 k) S744x2048.size hh) hs = lutA (4 * k.val + 7) :=
  lutA_name ((k0_off15_eq k).trans (offA_of (by omega) (by omega))) _ _
@[sl_canon] theorem ask3b (hk : k.val + 1 < 25) (hh hs) : lutM.slice (Rect.unit (s := S100000x2048) (k0_off16 k) S256x2048.size hh) hs = lutB (4 * k.val + 7) :=
  lutB_name ((k0_off16_eq k).trans (offB_of (by omega) (by omega))) _ _

@[sl_canon] theorem sentP0 (hk : 0 < k.val) (hh hs) : outM.slice (Rect.unit (s := S100000x1024) (k0_off1 k) S1000x1024.size hh) hs = outN (4 * k.val - 2) :=
  have := trip_lt k; outN_name ((off1_closed k hk).trans (offA_of rfl (by omega))) _ _
@[sl_canon] theorem sentP1 (hk : 0 < k.val) (hh hs) : outM.slice (Rect.unit (s := S100000x1024) (k0_off7 k) S1000x1024.size hh) hs = outN (4 * k.val - 1) :=
  have := trip_lt k; outN_name ((off7_closed k hk).trans (offA_of rfl (by omega))) _ _
@[sl_canon] theorem sent0 (hh hs) : outM.slice (Rect.unit (s := S100000x1024) (k0_off4 k) S1000x1024.size hh) hs = outN (4 * k.val) :=
  have := trip_lt k; outN_name ((k0_off4_eq k).trans (offA_of (by omega) (by omega))) _ _
@[sl_canon] theorem sent1 (hh hs) : outM.slice (Rect.unit (s := S100000x1024) (k0_off10 k 1#32) S1000x1024.size hh) hs = outN (4 * k.val + 1) :=
  have := trip_lt k; outN_name ((k0_off10_eq k 0).trans (offA_of (by show 4000 * k.val + 1000 * 0 + 1000 = _; omega) (by omega))) _ _
@[sl_canon] theorem sent2 (hh hs) : outM.slice (Rect.unit (s := S100000x1024) (k0_off10 k 2#32) S1000x1024.size hh) hs = outN (4 * k.val + 2) :=
  have := trip_lt k; outN_name ((k0_off10_eq k 1).trans (offA_of (by show 4000 * k.val + 1000 * 1 + 1000 = _; omega) (by omega))) _ _
@[sl_canon] theorem sent3 (hh hs) : outM.slice (Rect.unit (s := S100000x1024) (k0_off10 k 3#32) S1000x1024.size hh) hs = outN (4 * k.val + 3) :=
  have := trip_lt k; outN_name ((k0_off10_eq k 2).trans (offA_of (by show 4000 * k.val + 1000 * 2 + 1000 = _; omega) (by omega))) _ _
@[sl_canon] theorem last2 (hh hs) : outM.slice (Rect.unit (s := S100000x1024) (k0_off17 k 2#32) S1000x1024.size hh) hs = outN (4 * k.val + 2) :=
  have := trip_lt k; outN_name ((k0_off17_eq k 0).trans (offA_of (by show 4000 * k.val + 1000 * 0 + 2000 = _; omega) (by omega))) _ _
@[sl_canon] theorem last3 (hh hs) : outM.slice (Rect.unit (s := S100000x1024) (k0_off17 k 3#32) S1000x1024.size hh) hs = outN (4 * k.val + 3) :=
  have := trip_lt k; outN_name ((k0_off17_eq k 1).trans (offA_of (by show 4000 * k.val + 1000 * 1 + 2000 = _; omega) (by omega))) _ _

end Names

/-! ## Ranges of rows -/

/-- The elements of rows `a` up to `b` of a rank-two shape. -/
def rows (r c a b : ℕ) : Finset (Shape.Idx ⟨2, ![r, c]⟩) :=
  Finset.univ.filter fun i => a ≤ (i 0).val ∧ (i 0).val < b

/-- An index lies in a range of rows when its row does. -/
theorem mem_rows {r c a b : ℕ} {i : Shape.Idx ⟨2, ![r, c]⟩} : i ∈ rows r c a b ↔ a ≤ (i 0).val ∧ (i 0).val < b := by
  simp [rows]

/-- Two ranges of rows that meet at a row share no index. -/
theorem rows_disjoint {r c a b d : ℕ} : Disjoint (rows r c a b) (rows r c b d) := by
  rw [Finset.disjoint_left]; intro i h h'; rw [mem_rows] at h h'; omega

/-- Two ranges of rows that meet at a row make one range. -/
theorem rows_union {r c a b d : ℕ} (h : a ≤ b) (h' : b ≤ d) : rows r c a b ∪ rows r c b d = rows r c a d := by
  ext i; rw [Finset.mem_union, mem_rows, mem_rows, mem_rows]; omega

/-- The range of all rows is everything. -/
theorem rows_univ {r c : ℕ} : rows r c 0 r = Finset.univ := by
  ext i; rw [mem_rows]; have := (i 0).isLt; simp only [Finset.mem_univ, iff_true]; exact ⟨Nat.zero_le _, this⟩

/-- A unit rectangle over all the columns covers the rows from its offset on. -/
theorem rect_rows {r c o n : ℕ} (inb) :
    (Rect.unit (s := ⟨2, ![r, c]⟩) ![o, 0] ![n, c] inb).set = rows r c o (o + n) := by
  ext i; rw [Rect.mem_set_unit, mem_rows]
  have h1 := (i 1).isLt
  constructor
  · intro h; exact h 0
  · intro h a; fin_cases a
    · exact h
    · exact ⟨Nat.zero_le _, by show (i 1).val < 0 + c; have : (i 1).val < c := h1; omega⟩

/-- The first piece of block `n` covers its rows 0 to 743. -/
theorem lutA_set (n : ℕ) : (lutA n).view.set = rows 100000 2048 (1000 * (n % 100)) (1000 * (n % 100) + 744) :=
  (View.set_slice_whole main_arg2 _).trans (rect_rows _)
/-- The second piece of block `n` covers its rows 744 to 999. -/
theorem lutB_set (n : ℕ) : (lutB n).view.set = rows 100000 2048 (1000 * (n % 100) + 744) (1000 * (n % 100) + 744 + 256) :=
  (View.set_slice_whole main_arg2 _).trans (rect_rows _)
/-- Block `n` of the result covers its 1000 rows. -/
theorem outN_set (n : ℕ) : (outN n).view.set = rows 100000 1024 (1000 * (n % 100)) (1000 * (n % 100) + 1000) :=
  (View.set_slice_whole main_v1 _).trans (rect_rows _)

end Cert.KernelIdeal.Walk
-- ==== Proof.IdealPieces.lean ====
/-
  What the kernel's buffers hold: the block of the table a slot holds once its two pieces have landed, the block of the
  result the kernel computes from it, and the pieces of memory and transfers in flight that the loop passes from trip to
  trip.
-/
module

public import proofs.«01_k».proof.Proof.Pieces
public import proofs.«01_k».proof.Proof.IdealShape

@[expose] public section

set_option maxRecDepth 16384

noncomputable section

namespace Cert.KernelIdeal.Walk

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The ghost state: the pipeline's, and counters. -/
abbrev UW (nD : Nat) (τ : Topo) : Type := UR sig nD τ × Counters
local notation "𝕄" => MT nD τ sig Unit (Elt F) ℕ (UW nD τ) ℕ
/-- No variants: every loop here runs a known number of times. -/
abbrev 𝒱₀ : Variants := Variants.none

/-! ## Memory held through a view -/

section Held
variable (c : Dev nD) {sp : Space} {s : Shape} {e : EltTy}

/-- Contents that read alike through a view are the same assertion on the view's elements. -/
theorem held_congr (m : Memref sig .tc sp s e) (f g : Buf (Elt F) (m.view.loc (c : Thread nD τ)))
    (h : ∀ y, m.view.read (Elt F) f y = m.view.read (Elt F) g y) :
    (m.view.loc (c : Thread nD τ) ↦[m.view.set]{fullShare} f : sProp 𝕄) = m.view.loc (c : Thread nD τ) ↦[m.view.set]{fullShare} g :=
  pointsTo_congr fun i hi => by
    obtain ⟨y, -, rfl⟩ := Finset.mem_map.mp hi
    exact cast_inj _ |>.mp (h y)

/-- A write of the whole view is read back. -/
theorem read_written (m : Memref sig .tc sp s e) (f : Buf (Elt F) (m.view.loc (c : Thread nD τ))) (w : s.Idx → Elt F e)
    (L : List (View.Piece (Elt F) s e)) (y : s.Idx) :
    m.view.read (Elt F) (m.view.writes (Elt F) f (⟨Rect.whole s, w⟩ :: L)) y = w y := by
  have h := View.read_writes_cons_emb m.view f (Rect.whole s) w L y
  rwa [show (Rect.whole s).emb y = y from Rect.emb_whole_apply s y] at h

end Held

/-! ## Contents -/

section Contents
variable (c : Dev nD)

/-- A slot's buffer reading `V`. -/
def cont (b : Memref sig .tc .vmem S1000x2048 .f32) (V : Vec F S1000x2048 .f32) : Buf (Elt F) (b.view.loc (c : Thread nD τ)) :=
  b.view.writes (Elt F) b.view.junk [⟨Rect.whole S1000x2048, V⟩]

/-- A buffer filled with `V` reads as `V`. -/
theorem read_cont (b : Memref sig .tc .vmem S1000x2048 .f32) (V : Vec F S1000x2048 .f32) (y : S1000x2048.Idx) :
    b.view.read (Elt F) (cont c b V) y = V y := read_written c b _ V [] y

/-- A slot reading `V`, loaded whole, gives `V`. -/
theorem load_cont (b : Memref sig .tc .vmem S1000x2048 .f32) (V : Vec F S1000x2048 .f32) :
    b.view.readAt (Elt F) (Rect.unit (s := S1000x2048) ![0, 0] S1000x2048.size inb_S1000x2048_S1000x2048_0_0).toLoadRect (cont c b V) = V := by
  funext y
  rw [View.readAt_apply, read_cont]
  refine congrArg V (funext fun a => Fin.ext ?_)
  fin_cases a
  · show 0 + 1 * (y 0).val = (y 0).val; omega
  · show 0 + 1 * (y 1).val = (y 1).val; omega

/-- A staging buffer written whole with `V` reads `V`. -/
theorem read_stored (b : Memref sig .tc .vmem S1000x1024 .f32) (f : Buf (Elt F) (b.view.loc (c : Thread nD τ))) (V : Vec F S1000x1024 .f32) (L : List (View.Piece (Elt F) S1000x1024 .f32)) :
    b.view.read (Elt F) (b.view.writes (Elt F) f (⟨Rect.unit (s := S1000x1024) ![0, 0] S1000x1024.size inb_S1000x1024_S1000x1024_0_0, V⟩ :: L)) = V := by
  funext y
  have h := View.read_writes_cons_emb b.view f (Rect.unit (s := S1000x1024) ![0, 0] S1000x1024.size inb_S1000x1024_S1000x1024_0_0) V L y
  have e : (Rect.unit (s := S1000x1024) ![0, 0] S1000x1024.size inb_S1000x1024_S1000x1024_0_0).emb y = y := by
    refine funext fun a => Fin.ext ?_
    fin_cases a
    · show 0 + 1 * (y 0).val = (y 0).val; omega
    · show 0 + 1 * (y 1).val = (y 1).val; omega
  rwa [e] at h

variable (XL : Buf (Elt F) (lutM.view.loc (c : Thread nD τ)))

/-- Block `n` of the table as a slot's vector. -/
def blkV (n : ℕ) : Vec F S1000x2048 .f32 := (lutN n).view.read (Elt F) XL

/-- Row `i` of block `n` is row `1000 n + i` of the table. -/
theorem blkV_apply (n : ℕ) (i : S1000x2048.Idx) (j : S100000x2048.Idx) (h0 : (j 0).val = 1000 * (n % 100) + (i 0).val) (h1 : (j 1).val = (i 1).val) :
    blkV c XL n i = XL j := by
  have e : (show S100000x2048.Idx from (lutN n).view.emb i) = j := by
    refine funext fun a => Fin.ext ?_
    fin_cases a
    · show 1000 * (n % 100) + 1 * (i 0).val = (j 0).val; omega
    · show 0 + 1 * (i 1).val = (j 1).val; omega
  exact congrArg XL e

/-- The product of block `n` with the activations. -/
def prodV (x : Vec F S1024x2048 .bf16) (n : ℕ) : Vec F S1000x1024 .f32 := k0_pay1 x (blkV c XL n)

/-- A row and column inside a block of the result, from a row and column of the result. -/
def inBlk (i : S100000x1024.Idx) : S1000x1024.Idx :=
  Fin.cons ⟨(i 0).val % 1000, Nat.mod_lt _ (by decide)⟩ (Fin.cons ⟨(i 1).val, (i 1).isLt⟩ (fun a => a.elim0))

/-- The whole result: every block is its product. -/
def resV (x : Vec F S1024x2048 .bf16) : Buf (Elt F) (outM.view.loc (c : Thread nD τ)) :=
  fun i : S100000x1024.Idx => prodV c XL x ((i 0).val / 1000) (inBlk i)

/-- Block `n` of the whole result is the product of block `n`. -/
theorem read_resV (x : Vec F S1024x2048 .bf16) (n : ℕ) (hn : n < 100) (y : S1000x1024.Idx) :
    (outN n).view.read (Elt F) (resV c XL x) y = prodV c XL x n y := by
  have hy : (y 0).val < 1000 := (y 0).isLt
  have e0 : ((show S100000x1024.Idx from (outN n).view.emb y) 0).val = 1000 * n + (y 0).val := by
    show 1000 * (n % 100) + 1 * (y 0).val = _; rw [Nat.mod_eq_of_lt hn]; omega
  have e1 : ((show S100000x1024.Idx from (outN n).view.emb y) 1).val = (y 1).val := by
    show 0 + 1 * (y 1).val = _; omega
  have eb : inBlk (show S100000x1024.Idx from (outN n).view.emb y) = y := by
    refine funext fun a => Fin.ext ?_
    fin_cases a
    · show ((show S100000x1024.Idx from (outN n).view.emb y) 0).val % 1000 = (y 0).val; omega
    · exact e1
  show prodV c XL x (((show S100000x1024.Idx from (outN n).view.emb y) 0).val / 1000) (inBlk (show S100000x1024.Idx from (outN n).view.emb y)) = _
  rw [eb, show ((show S100000x1024.Idx from (outN n).view.emb y) 0).val / 1000 = n by omega]

end Contents

/-! ## Pieces -/

section Pieces
variable (c : Dev nD) (XL : Buf (Elt F) (lutM.view.loc (c : Thread nD τ)))

/-- A staging buffer held at contents. -/
abbrev stg (b : Memref sig .tc .vmem S1000x1024 .f32) (f : Buf (Elt F) (b.view.loc (c : Thread nD τ))) : sProp 𝕄 :=
  b.view.loc (c : Thread nD τ) ↦[b.view.set]{fullShare} f
/-- A slot held whole at contents. -/
abbrev slot (b : Memref sig .tc .vmem S1000x2048 .f32) (f : Buf (Elt F) (b.view.loc (c : Thread nD τ))) : sProp 𝕄 :=
  b.view.loc (c : Thread nD τ) ↦[b.view.set]{fullShare} f
/-- A slot's first 744 rows held. -/
abbrev slotA (b : Memref sig .tc .vmem S1000x2048 .f32) (f : Buf (Elt F) (b.view.loc (c : Thread nD τ))) : sProp 𝕄 :=
  (topA b).view.loc (c : Thread nD τ) ↦[(topA b).view.set]{fullShare} f
/-- A slot's last 256 rows held. -/
abbrev slotB (b : Memref sig .tc .vmem S1000x2048 .f32) (f : Buf (Elt F) (b.view.loc (c : Thread nD τ))) : sProp 𝕄 :=
  (botB b).view.loc (c : Thread nD τ) ↦[(botB b).view.set]{fullShare} f
/-- The first piece of block `n` of the table held at the table's contents. -/
abbrev homeA (n : ℕ) : sProp 𝕄 := (lutA n).view.loc (c : Thread nD τ) ↦[(lutA n).view.set]{fullShare} XL
/-- The second piece of block `n` of the table held at the table's contents. -/
abbrev homeB (n : ℕ) : sProp 𝕄 := (lutB n).view.loc (c : Thread nD τ) ↦[(lutB n).view.set]{fullShare} XL
/-- Block `n` of the result held at contents of the result. -/
abbrev outP (n : ℕ) (g : Buf (Elt F) (outM.view.loc (c : Thread nD τ))) : sProp 𝕄 :=
  (outN n).view.loc (c : Thread nD τ) ↦[(outN n).view.set]{fullShare} g
/-- A semaphore of the kernel at zero. -/
abbrev cell (s : DmaSems sig S_) : sProp 𝕄 := semVal ((c : Thread nD τ), SemLoc.dma s.sem) 0

/-- A slot is its two pieces. -/
theorem slot_pieces (b : Memref sig .tc .vmem S1000x2048 .f32) (f : Buf (Elt F) (b.view.loc (c : Thread nD τ))) :
    slot c b f = iprop(slotA c b f ∗ slotB c b f) := by
  have hA : (topA b).view.set = (rows 1000 2048 0 744).map b.view.emb := (View.set_slice b.view _).trans (congrArg (Finset.map b.view.emb) (rect_rows (o := 0) (n := 744) _))
  have hB : (botB b).view.set = (rows 1000 2048 744 1000).map b.view.emb := (View.set_slice b.view _).trans (congrArg (Finset.map b.view.emb) (rect_rows (o := 744) (n := 256) _))
  have hU : b.view.set = (rows 1000 2048 0 744).map b.view.emb ∪ (rows 1000 2048 744 1000).map b.view.emb := by
    rw [← Finset.map_union, rows_union (by decide) (by decide), rows_univ]; rfl
  have hd : Disjoint ((rows 1000 2048 0 744).map b.view.emb) ((rows 1000 2048 744 1000).map b.view.emb) :=
    (Finset.disjoint_map _).mpr rows_disjoint
  have hj : (b.view.loc (c : Thread nD τ) ↦[(rows 1000 2048 0 744).map b.view.emb ∪ (rows 1000 2048 744 1000).map b.view.emb]{fullShare} f : sProp 𝕄)
      = iprop((b.view.loc (c : Thread nD τ) ↦[(rows 1000 2048 0 744).map b.view.emb]{fullShare} f)
          ∗ b.view.loc (c : Thread nD τ) ↦[(rows 1000 2048 744 1000).map b.view.emb]{fullShare} f) :=
    (pointsTo_union hd).1.antisymm (pointsTo_union hd).2
  show (b.view.loc (c : Thread nD τ) ↦[b.view.set]{fullShare} f : sProp 𝕄)
    = iprop((b.view.loc (c : Thread nD τ) ↦[(topA b).view.set]{fullShare} f) ∗ b.view.loc (c : Thread nD τ) ↦[(botB b).view.set]{fullShare} f)
  rw [hA, hB, hU]; exact hj

/-- What the first piece of block `n` leaves in a slot's first rows. -/
theorem landA (b : Memref sig .tc .vmem S1000x2048 .f32) (f : Buf (Elt F) (b.view.loc (c : Thread nD τ))) (n : ℕ) (w : S744x2048.Idx → Elt F .f32)
    (L : List (View.Piece (Elt F) S744x2048 .f32)) (hw : w = ReadAs.same.apply ((lutA n).view.read (Elt F) XL)) :
    ((topA b).view.loc (c : Thread nD τ) ↦[(topA b).view.set]{fullShare} (topA b).view.writes (Elt F) f (⟨Rect.whole S744x2048, w⟩ :: L) : sProp 𝕄)
      = slotA c b (cont c b (blkV c XL n)) := by
  refine held_congr c (topA b) _ _ fun y => ?_
  rw [read_written c (topA b), hw]
  refine Eq.trans ?_ (read_cont c b (blkV c XL n) _).symm
  refine (blkV_apply c XL n _ ((lutA n).view.emb y) ?_ ?_).symm
  · show 1000 * (n % 100) + 1 * (y 0).val = 1000 * (n % 100) + (0 + 1 * (y 0).val); omega
  · show 0 + 1 * (y 1).val = 0 + 1 * (y 1).val; omega
/-- What the second piece of block `n` leaves in a slot's last rows. -/
theorem landB (b : Memref sig .tc .vmem S1000x2048 .f32) (f : Buf (Elt F) (b.view.loc (c : Thread nD τ))) (n : ℕ) (w : S256x2048.Idx → Elt F .f32)
    (L : List (View.Piece (Elt F) S256x2048 .f32)) (hw : w = ReadAs.same.apply ((lutB n).view.read (Elt F) XL)) :
    ((botB b).view.loc (c : Thread nD τ) ↦[(botB b).view.set]{fullShare} (botB b).view.writes (Elt F) f (⟨Rect.whole S256x2048, w⟩ :: L) : sProp 𝕄)
      = slotB c b (cont c b (blkV c XL n)) := by
  refine held_congr c (botB b) _ _ fun y => ?_
  rw [read_written c (botB b), hw]
  refine Eq.trans ?_ (read_cont c b (blkV c XL n) _).symm
  refine (blkV_apply c XL n _ ((lutB n).view.emb y) ?_ ?_).symm
  · show 1000 * (n % 100) + 744 + 1 * (y 0).val = 1000 * (n % 100) + (744 + 1 * (y 0).val); omega
  · show 0 + 1 * (y 1).val = 0 + 1 * (y 1).val; omega
/-- What a staging buffer holding the product of block `n` leaves in block `n` of the result. -/
theorem landO (x : Vec F S1024x2048 .bf16) (f : Buf (Elt F) (outM.view.loc (c : Thread nD τ))) (n : ℕ) (hn : n < 100) (w : S1000x1024.Idx → Elt F .f32)
    (hw : w = prodV c XL x n) :
    ((outN n).view.loc (c : Thread nD τ) ↦[(outN n).view.set]{fullShare} (outN n).view.writes (Elt F) f [⟨Rect.whole S1000x1024, w⟩] : sProp 𝕄)
      = outP c n (resV c XL x) := by
  refine held_congr c (outN n) _ _ fun y => ?_
  exact (read_written c (outN n) f w [] y).trans ((congrFun hw y).trans (read_resV c XL x n hn y).symm)

/-! ## Transfers in flight -/

/-- The two pieces of block `n` in flight to the slot `b`, on the semaphores `s` and `t`: the slot's rows will hold the
    block, and the table's piece comes back. -/
abbrev flyA (b : Memref sig .tc .vmem S1000x2048 .f32) (s : DmaSems sig S_) (n : ℕ) : sProp 𝕄 :=
  Transfers.Flight countersEmb (c : Thread nD τ) (SemLoc.dma s.sem) () 190464 iprop(slotA c b (cont c b (blkV c XL n)) ∗ homeA c XL n)
/-- The second piece of block `n` in flight to the buffer `b` on the semaphore `s`, likewise. -/
abbrev flyB (b : Memref sig .tc .vmem S1000x2048 .f32) (s : DmaSems sig S_) (n : ℕ) : sProp 𝕄 :=
  Transfers.Flight countersEmb (c : Thread nD τ) (SemLoc.dma s.sem) () 65536 iprop(slotB c b (cont c b (blkV c XL n)) ∗ homeB c XL n)
/-- Block `n` of the result in flight from the staging buffer `b` on the semaphore `s`. -/
abbrev flyO (x : Vec F S1024x2048 .bf16) (b : Memref sig .tc .vmem S1000x1024 .f32) (s : DmaSems sig S_) (f : Buf (Elt F) (b.view.loc (c : Thread nD τ))) (n : ℕ) : sProp 𝕄 :=
  Transfers.Flight countersEmb (c : Thread nD τ) (SemLoc.dma s.sem) () 128000 iprop(outP c n (resV c XL x) ∗ stg c b f)

/-- A piece just sent to a slot will leave the block there. -/
theorem sentA (b : Memref sig .tc .vmem S1000x2048 .f32) (s : DmaSems sig S_) (f : Buf (Elt F) (b.view.loc (c : Thread nD τ))) (n : ℕ) (w : S744x2048.Idx → Elt F .f32)
    (hw : w = ReadAs.same.apply ((lutA n).view.read (Elt F) XL)) :
    (Transfers.Flight countersEmb (c : Thread nD τ) (SemLoc.dma s.sem) () 190464
      iprop(((topA b).view.loc (c : Thread nD τ) ↦[(topA b).view.set]{fullShare} (topA b).view.writes (Elt F) f [⟨Rect.whole S744x2048, w⟩]) ∗ homeA c XL n) : sProp 𝕄)
      ⊢ flyA c XL b s n := by
  rw [landA c XL b f n w [] hw]
/-- A copy of the second piece of block `n`, just started, is that piece in flight. -/
theorem sentB (b : Memref sig .tc .vmem S1000x2048 .f32) (s : DmaSems sig S_) (f : Buf (Elt F) (b.view.loc (c : Thread nD τ))) (n : ℕ) (w : S256x2048.Idx → Elt F .f32)
    (hw : w = ReadAs.same.apply ((lutB n).view.read (Elt F) XL)) :
    (Transfers.Flight countersEmb (c : Thread nD τ) (SemLoc.dma s.sem) () 65536
      iprop(((botB b).view.loc (c : Thread nD τ) ↦[(botB b).view.set]{fullShare} (botB b).view.writes (Elt F) f [⟨Rect.whole S256x2048, w⟩]) ∗ homeB c XL n) : sProp 𝕄)
      ⊢ flyB c XL b s n := by
  rw [landB c XL b f n w [] hw]
/-- A block just sent out of a staging buffer will be the result's block. -/
theorem sentO (x : Vec F S1024x2048 .bf16) (b : Memref sig .tc .vmem S1000x1024 .f32) (s : DmaSems sig S_) (f : Buf (Elt F) (outM.view.loc (c : Thread nD τ)))
    (g : Buf (Elt F) (b.view.loc (c : Thread nD τ))) (n : ℕ) (hn : n < 100) (w : S1000x1024.Idx → Elt F .f32) (hw : w = prodV c XL x n) :
    (Transfers.Flight countersEmb (c : Thread nD τ) (SemLoc.dma s.sem) () 128000
      iprop(((outN n).view.loc (c : Thread nD τ) ↦[(outN n).view.set]{fullShare} (outN n).view.writes (Elt F) f [⟨Rect.whole S1000x1024, w⟩]) ∗ stg c b g) : sProp 𝕄)
      ⊢ flyO c XL x b s g n := by
  rw [landO c XL x f n hn w hw]

/-! ## Ranges of blocks -/

/-- Blocks `a` up to `b` of the table held at the table's contents. -/
abbrev lutR (a b : ℕ) : sProp 𝕄 := lutM.view.loc (c : Thread nD τ) ↦[rows 100000 2048 (1000 * a) (1000 * b)]{fullShare} XL
/-- Blocks `a` up to `b` of the result held at contents. -/
abbrev outR (a b : ℕ) (g : Buf (Elt F) (outM.view.loc (c : Thread nD τ))) : sProp 𝕄 :=
  outM.view.loc (c : Thread nD τ) ↦[rows 100000 1024 (1000 * a) (1000 * b)]{fullShare} g

/-- Two adjacent ranges of the table are one. -/
theorem lutR_cat {a b d : ℕ} (h : a ≤ b) (h' : b ≤ d) : (lutR c XL a d : sProp 𝕄) = iprop(lutR c XL a b ∗ lutR c XL b d) := by
  rw [lutR, ← rows_union (r := 100000) (c := 2048) (show 1000 * a ≤ 1000 * b by omega) (show 1000 * b ≤ 1000 * d by omega)]
  exact (pointsTo_union rows_disjoint).1.antisymm (pointsTo_union rows_disjoint).2
/-- Two adjacent ranges of the result are one. -/
theorem outR_cat {a b d : ℕ} (g : Buf (Elt F) (outM.view.loc (c : Thread nD τ))) (h : a ≤ b) (h' : b ≤ d) : (outR c a d g : sProp 𝕄) = iprop(outR c a b g ∗ outR c b d g) := by
  rw [outR, ← rows_union (r := 100000) (c := 1024) (show 1000 * a ≤ 1000 * b by omega) (show 1000 * b ≤ 1000 * d by omega)]
  exact (pointsTo_union rows_disjoint).1.antisymm (pointsTo_union rows_disjoint).2
/-- One block of the table is its two pieces. -/
theorem lutR_one {n : ℕ} (hn : n < 100) : (lutR c XL n (n + 1) : sProp 𝕄) = iprop(homeA c XL n ∗ homeB c XL n) := by
  have hA := lutA_set n
  have hB := lutB_set n
  rw [Nat.mod_eq_of_lt hn] at hA hB
  show _ = iprop((lutM.view.loc (c : Thread nD τ) ↦[(lutA n).view.set]{fullShare} XL) ∗ lutM.view.loc (c : Thread nD τ) ↦[(lutB n).view.set]{fullShare} XL)
  rw [hA, hB, show 1000 * n + 744 + 256 = 1000 * (n + 1) by omega, lutR,
    ← rows_union (r := 100000) (c := 2048) (show 1000 * n ≤ 1000 * n + 744 by omega) (show 1000 * n + 744 ≤ 1000 * (n + 1) by omega)]
  exact (pointsTo_union rows_disjoint).1.antisymm (pointsTo_union rows_disjoint).2
/-- One block of the result is the result's piece. -/
theorem outR_one {n : ℕ} (g : Buf (Elt F) (outM.view.loc (c : Thread nD τ))) (hn : n < 100) : (outR c n (n + 1) g : sProp 𝕄) = outP c n g := by
  have hN := outN_set n
  rw [Nat.mod_eq_of_lt hn] at hN
  show _ = (outM.view.loc (c : Thread nD τ) ↦[(outN n).view.set]{fullShare} g : sProp 𝕄)
  rw [hN, show 1000 * n + 1000 = 1000 * (n + 1) by omega]
/-- No block of the result. -/
theorem outR_none (a : ℕ) (g : Buf (Elt F) (outM.view.loc (c : Thread nD τ))) : (outR c a a g : sProp 𝕄) = iprop(emp) := by
  have e : rows 100000 1024 (1000 * a) (1000 * a) = ∅ := by
    ext i; rw [mem_rows]; simp only [Finset.notMem_empty, iff_false]; omega
  rw [outR, e]; exact pointsTo_empty
/-- A range of no blocks of the table holds nothing. -/
theorem lutR_none (a : ℕ) : (lutR c XL a a : sProp 𝕄) = iprop(emp) := by
  have e : rows 100000 2048 (1000 * a) (1000 * a) = ∅ := by
    ext i; rw [mem_rows]; simp only [Finset.notMem_empty, iff_false]; omega
  rw [lutR, e]; exact pointsTo_empty
/-- The whole table. -/
theorem lutR_all : (lutR c XL 0 100 : sProp 𝕄) = lutM.view.loc (c : Thread nD τ) ↦{fullShare} XL := by
  rw [lutR, show (1000 * 0 : ℕ) = 0 from rfl, show (1000 * 100 : ℕ) = 100000 from rfl, rows_univ]
/-- The whole result. -/
theorem outR_all (g : Buf (Elt F) (outM.view.loc (c : Thread nD τ))) : (outR c 0 100 g : sProp 𝕄) = outM.view.loc (c : Thread nD τ) ↦{fullShare} g := by
  rw [outR, show (1000 * 0 : ℕ) = 0 from rfl, show (1000 * 100 : ℕ) = 100000 from rfl, rows_univ]

end Pieces

end Cert.KernelIdeal.Walk
-- ==== Proof.IdealTrip.lean ====
/-
  One trip of the kernel's loop: four blocks of the table are received, multiplied and sent out, and the next four are
  asked for. The first, the middle and the last trips differ in what is in flight when they begin and end.
-/
module

public import proofs.«01_k».proof.Proof.Trip
public import proofs.«01_k».proof.Proof.IdealPieces

@[expose] public section

set_option maxRecDepth 16384

noncomputable section

namespace Cert.KernelIdeal.Walk

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UW nD τ) ℕ

section Trip
variable (c : Dev nD) (XL : Buf (Elt F) (lutM.view.loc (c : Thread nD τ))) (x : Vec F S1024x2048 .bf16)
  (f0 : Buf (Elt F) (outM.view.loc (c : Thread nD τ)))

/-! ## Taking four blocks out of a range, and putting them back -/

/-- One block of the table, as its two pieces. -/
abbrev home (n : ℕ) : sProp 𝕄 := iprop(homeA c XL n ∗ homeB c XL n)

/-- The table from block `n` on: four blocks and the rest. -/
theorem lut_take (n : ℕ) (h : n + 4 ≤ 100) :
    (lutR c XL n 100 : sProp 𝕄) = iprop(home c XL n ∗ home c XL (n + 1) ∗ home c XL (n + 2) ∗ home c XL (n + 3) ∗ lutR c XL (n + 4) 100) := by
  rw [lutR_cat c XL (show n ≤ n + 1 by omega) (show n + 1 ≤ 100 by omega), lutR_cat c XL (show n + 1 ≤ n + 1 + 1 by omega) (show n + 1 + 1 ≤ 100 by omega),
    lutR_cat c XL (show n + 1 + 1 ≤ n + 1 + 1 + 1 by omega) (show n + 1 + 1 + 1 ≤ 100 by omega),
    lutR_cat c XL (show n + 1 + 1 + 1 ≤ n + 1 + 1 + 1 + 1 by omega) (show n + 1 + 1 + 1 + 1 ≤ 100 by omega),
    lutR_one c XL (show n < 100 by omega), lutR_one c XL (show n + 1 < 100 by omega), lutR_one c XL (show n + 1 + 1 < 100 by omega),
    lutR_one c XL (show n + 1 + 1 + 1 < 100 by omega)]

/-- The result from block `n` on: four blocks and the rest. -/
theorem out_take (g : Buf (Elt F) (outM.view.loc (c : Thread nD τ))) (n : ℕ) (h : n + 4 ≤ 100) :
    (outR c n 100 g : sProp 𝕄) = iprop(outP c n g ∗ outP c (n + 1) g ∗ outP c (n + 2) g ∗ outP c (n + 3) g ∗ outR c (n + 4) 100 g) := by
  rw [outR_cat c g (show n ≤ n + 1 by omega) (show n + 1 ≤ 100 by omega), outR_cat c g (show n + 1 ≤ n + 1 + 1 by omega) (show n + 1 + 1 ≤ 100 by omega),
    outR_cat c g (show n + 1 + 1 ≤ n + 1 + 1 + 1 by omega) (show n + 1 + 1 + 1 ≤ 100 by omega),
    outR_cat c g (show n + 1 + 1 + 1 ≤ n + 1 + 1 + 1 + 1 by omega) (show n + 1 + 1 + 1 + 1 ≤ 100 by omega),
    outR_one c g (show n < 100 by omega), outR_one c g (show n + 1 < 100 by omega), outR_one c g (show n + 1 + 1 < 100 by omega),
    outR_one c g (show n + 1 + 1 + 1 < 100 by omega)]

/-- One more block behind: the table. -/
theorem lut_put (n : ℕ) (h : n < 100) : iprop(lutR c XL 0 n ∗ homeA c XL n ∗ homeB c XL n) ⊢ (lutR c XL 0 (n + 1) : sProp 𝕄) := by
  rw [lutR_cat c XL (Nat.zero_le n) (Nat.le_succ n), lutR_one c XL h]
/-- One more block behind: the result. -/
theorem out_put (g : Buf (Elt F) (outM.view.loc (c : Thread nD τ))) (n : ℕ) (h : n < 100) : iprop(outR c 0 n g ∗ outP c n g) ⊢ (outR c 0 (n + 1) g : sProp 𝕄) := by
  rw [outR_cat c g (Nat.zero_le n) (Nat.le_succ n), outR_one c g h]

/-- Four more blocks behind: the table. -/
theorem lut_put4 (n : ℕ) (h : n + 4 ≤ 100) :
    iprop(lutR c XL 0 n ∗ (homeA c XL n ∗ homeB c XL n) ∗ (homeA c XL (n + 1) ∗ homeB c XL (n + 1)) ∗ (homeA c XL (n + 2) ∗ homeB c XL (n + 2))
      ∗ (homeA c XL (n + 3) ∗ homeB c XL (n + 3))) ⊢ (lutR c XL 0 (n + 4) : sProp 𝕄) := by
  rw [lutR_cat c XL (Nat.zero_le n) (show n ≤ n + 4 by omega), lutR_cat c XL (show n ≤ n + 1 by omega) (show n + 1 ≤ n + 4 by omega),
    lutR_cat c XL (show n + 1 ≤ n + 1 + 1 by omega) (show n + 1 + 1 ≤ n + 4 by omega),
    lutR_cat c XL (show n + 1 + 1 ≤ n + 1 + 1 + 1 by omega) (show n + 1 + 1 + 1 ≤ n + 4 by omega),
    lutR_one c XL (show n < 100 by omega), lutR_one c XL (show n + 1 < 100 by omega), lutR_one c XL (show n + 1 + 1 < 100 by omega),
    lutR_one c XL (show n + 1 + 1 + 1 < 100 by omega)]
/-- Four more blocks behind: the result. -/
theorem out_put4 (g : Buf (Elt F) (outM.view.loc (c : Thread nD τ))) (n : ℕ) (h2 : 2 ≤ n) (h : n + 2 ≤ 100) :
    iprop(outR c 0 (n - 2) g ∗ outP c (n - 2) g ∗ outP c (n - 1) g ∗ outP c n g ∗ outP c (n + 1) g) ⊢ (outR c 0 (n + 2) g : sProp 𝕄) := by
  obtain ⟨m, rfl⟩ : ∃ m, n = m + 2 := ⟨n - 2, by omega⟩
  rw [show m + 2 - 2 = m by omega, show m + 2 - 1 = m + 1 by omega]
  rw [outR_cat c g (Nat.zero_le m) (show m ≤ m + 2 + 2 by omega), outR_cat c g (show m ≤ m + 1 by omega) (show m + 1 ≤ m + 2 + 2 by omega),
    outR_cat c g (show m + 1 ≤ m + 1 + 1 by omega) (show m + 1 + 1 ≤ m + 2 + 2 by omega),
    outR_cat c g (show m + 1 + 1 ≤ m + 1 + 1 + 1 by omega) (show m + 1 + 1 + 1 ≤ m + 2 + 2 by omega),
    outR_one c g (show m < 100 by omega), outR_one c g (show m + 1 < 100 by omega), outR_one c g (show m + 1 + 1 < 100 by omega),
    outR_one c g (show m + 1 + 1 + 1 < 100 by omega)]

/-- The first two blocks of the result. -/
theorem out_put2 (g : Buf (Elt F) (outM.view.loc (c : Thread nD τ))) (n : ℕ) (h0 : n = 0) :
    iprop(outP c n g ∗ outP c (n + 1) g) ⊢ (outR c 0 (n + 2) g : sProp 𝕄) := by
  subst h0
  rw [outR_cat c g (show 0 ≤ 0 + 1 by omega) (show 0 + 1 ≤ 0 + 2 by omega), outR_one c g (show 0 < 100 by omega), outR_one c g (show 0 + 1 < 100 by omega)]

/-- A slot's two pieces, both holding block `n`, are the slot. -/
theorem slot_join (b : Memref sig .tc .vmem S1000x2048 .f32) (f : Buf (Elt F) (b.view.loc (c : Thread nD τ))) :
    iprop(slotA c b f ∗ slotB c b f) ⊢ (slot c b f : sProp 𝕄) := by rw [slot_pieces c b f]
/-- A slot held whole is its two pieces. -/
theorem slot_cut (b : Memref sig .tc .vmem S1000x2048 .f32) (f : Buf (Elt F) (b.view.loc (c : Thread nD τ))) :
    (slot c b f : sProp 𝕄) ⊢ iprop(slotA c b f ∗ slotB c b f) := by rw [slot_pieces c b f]

/-- What a trip stores in a staging buffer, read back, is the block's product. -/
theorem stored_prod (b : Memref sig .tc .vmem S1000x2048 .f32) (o : Memref sig .tc .vmem S1000x1024 .f32) (g : Buf (Elt F) (o.view.loc (c : Thread nD τ)))
    (L : List (View.Piece (Elt F) S1000x1024 .f32)) (n : ℕ) :
    ReadAs.same.apply (o.view.read (Elt F) (o.view.writes (Elt F) g (⟨Rect.unit (s := S1000x1024) ![0, 0] S1000x1024.size inb_S1000x1024_S1000x1024_0_0,
      k0_pay1 x (b.view.readAt (Elt F) (Rect.unit (s := S1000x2048) ![0, 0] S1000x2048.size inb_S1000x2048_S1000x2048_0_0).toLoadRect (cont c b (blkV c XL n)))⟩ :: L)))
      = prodV c XL x n :=
  (read_stored c o g _ L).trans (congrArg (k0_pay1 x) (load_cont c b (blkV c XL n)))

/-! ## What the loop holds -/

/-- Blocks `n` to `n + 3` in flight to the four slots. -/
abbrev slotsFly (n : ℕ) : sProp 𝕄 :=
  iprop(flyA c XL l0M cc0_scratch8 n ∗ flyB c XL l0M cc0_scratch12 n ∗ flyA c XL l1M cc0_scratch9 (n + 1) ∗ flyB c XL l1M cc0_scratch13 (n + 1)
    ∗ flyA c XL l2M cc0_scratch10 (n + 2) ∗ flyB c XL l2M cc0_scratch14 (n + 2) ∗ flyA c XL l3M cc0_scratch11 (n + 3) ∗ flyB c XL l3M cc0_scratch15 (n + 3))

/-- Before the first trip, `n` being its first block: blocks `n` to `n + 3` in flight, the whole result to be written, both
    staging buffers free. -/
def atFirst (n : ℕ) : sProp 𝕄 :=
  iprop((∃ W, owes (c : Thread nD τ) 0 W) ∗ lutR c XL 0 n ∗ lutR c XL (n + 4) 100 ∗ outR c n 100 f0 ∗ slotsFly c XL n
    ∗ (∃ g, stg c o0M g) ∗ (∃ g, stg c o1M g) ∗ cell c cc0_scratch16 ∗ cell c cc0_scratch17)

/-- Before a middle trip, `n` being its first block: blocks `n` to `n + 3` in flight, blocks up to `n - 2` of the result
    written, blocks `n - 2` and `n - 1` on their way out. -/
def atMid (n : ℕ) : sProp 𝕄 :=
  iprop((∃ W, owes (c : Thread nD τ) 0 W) ∗ lutR c XL 0 n ∗ lutR c XL (n + 4) 100 ∗ outR c 0 (n - 2) (resV c XL x) ∗ outR c n 100 f0 ∗ slotsFly c XL n
    ∗ (∃ g, flyO c XL x o0M cc0_scratch16 g (n - 2)) ∗ (∃ g, flyO c XL x o1M cc0_scratch17 g (n - 1)))

/-- After the last trip: the table back, the result written, every buffer and semaphore free. -/
def atLast : sProp 𝕄 :=
  iprop((∃ W, owes (c : Thread nD τ) 0 W) ∗ lutR c XL 0 100 ∗ outR c 0 100 (resV c XL x)
    ∗ (∃ f, slot c l0M f) ∗ (∃ f, slot c l1M f) ∗ (∃ f, slot c l2M f) ∗ (∃ f, slot c l3M f)
    ∗ cell c cc0_scratch8 ∗ cell c cc0_scratch12 ∗ cell c cc0_scratch9 ∗ cell c cc0_scratch13
    ∗ cell c cc0_scratch10 ∗ cell c cc0_scratch14 ∗ cell c cc0_scratch11 ∗ cell c cc0_scratch15
    ∗ (∃ g, stg c o0M g) ∗ (∃ g, stg c o1M g) ∗ cell c cc0_scratch16 ∗ cell c cc0_scratch17)

/-- One trip of the loop. -/
abbrev tripP (k : Fin k0_t1_loop.trips) : Prog (TpuEff nD τ sig (Elt F) Λ₀ .tc) Unit :=
  k0_t1_body (F := F) actM (Memref.isWhole_whole _) lutM (Memref.isWhole_whole _) outM (Memref.isWhole_whole _) xM (Memref.isWhole_whole _)
    l0M (Memref.isWhole_whole _) l1M (Memref.isWhole_whole _) l2M (Memref.isWhole_whole _) l3M (Memref.isWhole_whole _)
    o0M (Memref.isWhole_whole _) o1M (Memref.isWhole_whole _) cc0_scratch7 cc0_scratch8 cc0_scratch9 cc0_scratch10 cc0_scratch11
    cc0_scratch12 cc0_scratch13 cc0_scratch14 cc0_scratch15 cc0_scratch16 cc0_scratch17 x k ()

/-- A middle trip: its four blocks received, multiplied and sent out, the next four asked for. -/
theorem trip_mid (k : Fin k0_t1_loop.trips) (hk : 0 < k.val) (hk' : k.val + 1 < 25) :
    atMid c XL x f0 (4 * k.val)
      ⊢ (wp frame (wpE (defs₀ (F := F)) 𝒱₀ (c : Thread nD τ) none) Set.univ (tripP x k) (fun _ => atMid c XL x f0 (4 * k.val + 4)) : sProp 𝕄) := by
  have h1 := (cond1_iff k).mpr (by omega)
  have h2 := (cond2_iff k).mpr (by omega)
  have h3 := (cond3_iff k).mpr (by omega)
  have h4 := (cond4_iff k).mpr (by omega)
  have h5 := (cond5_iff k).mpr (by omega)
  have h6 := (cond6_iff k).mpr (by omega)
  have h7 : ¬ k0_cond7 k = 1#1 := fun h => by have := (cond7_iff k).mp h; omega
  unfold atMid
  rw [lut_take c XL (4 * k.val + 4) (by omega), out_take c f0 (4 * k.val) (by omega)]
  iintro ⟨⟨%W, HW⟩, HT, ⟨HN0, HN1, HN2, HN3, HT'⟩, HD, ⟨HR0, HR1, HR2, HR3, HD'⟩, ⟨HA0, HB0, HA1, HB1, HA2, HB2, HA3, HB3⟩, ⟨%g0, HO0⟩, ⟨%g1, HO1⟩⟩
  dsimp only [tripP]
  sl_unfold [k0_t1_body]
  sl_exec
  ihave HS0 := (slot_join c l0M (cont c l0M (blkV c XL (4 * k.val)))) $$ [HA0_dst HB0_dst]
  · isplitl [HA0_dst]
    · iexact HA0_dst
    · iexact HB0_dst
  sl_exec
  ihave ⟨%p0, HP0⟩ : iprop(∃ g, flyO c XL x o0M cc0_scratch16 g (4 * k.val)) $$ [HO0]
  · iexists _
    istop
    exact sentO c XL x o0M cc0_scratch16 f0 _ (4 * k.val) (by omega) _ (stored_prod c XL x l0M o0M g0 [] (4 * k.val))
  icases (slot_cut c l0M _) $$ HS0 with ⟨HS0a, HS0b⟩
  icases HN0 with ⟨HN0a, HN0b⟩
  sl_exec
  ihave HS1 := (slot_join c l1M (cont c l1M (blkV c XL (4 * k.val + 1)))) $$ [HA1_dst HB1_dst]
  · isplitl [HA1_dst]
    · iexact HA1_dst
    · iexact HB1_dst
  sl_exec
  ihave ⟨%p1, HP1⟩ : iprop(∃ g, flyO c XL x o1M cc0_scratch17 g (4 * k.val + 1)) $$ [HO1]
  · iexists _
    istop
    exact sentO c XL x o1M cc0_scratch17 f0 _ (4 * k.val + 1) (by omega) _ (stored_prod c XL x l1M o1M g1 [] (4 * k.val + 1))
  icases (slot_cut c l1M _) $$ HS1 with ⟨HS1a, HS1b⟩
  icases HN1 with ⟨HN1a, HN1b⟩
  sl_exec
  ihave HS2 := (slot_join c l2M (cont c l2M (blkV c XL (4 * k.val + 2)))) $$ [HA2_dst HB2_dst]
  · isplitl [HA2_dst]
    · iexact HA2_dst
    · iexact HB2_dst
  sl_exec
  ihave ⟨%p2, HP2⟩ : iprop(∃ g, flyO c XL x o0M cc0_scratch16 g (4 * k.val + 2)) $$ [HP0]
  · iexists _
    istop
    exact sentO c XL x o0M cc0_scratch16 f0 _ (4 * k.val + 2) (by omega) _ (stored_prod c XL x l2M o0M p0 [] (4 * k.val + 2))
  icases (slot_cut c l2M _) $$ HS2 with ⟨HS2a, HS2b⟩
  icases HN2 with ⟨HN2a, HN2b⟩
  sl_exec
  ihave HS3 := (slot_join c l3M (cont c l3M (blkV c XL (4 * k.val + 3)))) $$ [HA3_dst HB3_dst]
  · isplitl [HA3_dst]
    · iexact HA3_dst
    · iexact HB3_dst
  sl_exec
  ihave ⟨%p3, HP3⟩ : iprop(∃ g, flyO c XL x o1M cc0_scratch17 g (4 * k.val + 3)) $$ [HP1]
  · iexists _
    istop
    exact sentO c XL x o1M cc0_scratch17 f0 _ (4 * k.val + 3) (by omega) _ (stored_prod c XL x l3M o1M p1 [] (4 * k.val + 3))
  icases (slot_cut c l3M _) $$ HS3 with ⟨HS3a, HS3b⟩
  icases HN3 with ⟨HN3a, HN3b⟩
  sl_exec
  sl_step
  isplitl [HW]
  · iexists _; iexact HW
  isplitl [HT HA0_src HB0_src HA1_src HB1_src HA2_src HB2_src HA3_src HB3_src]
  · iapply (lut_put4 c XL (4 * k.val) (by omega))
    isplitl [HT]
    · iexact HT
    isplitl [HA0_src HB0_src]
    · isplitl [HA0_src]
      · iexact HA0_src
      · iexact HB0_src
    isplitl [HA1_src HB1_src]
    · isplitl [HA1_src]
      · iexact HA1_src
      · iexact HB1_src
    isplitl [HA2_src HB2_src]
    · isplitl [HA2_src]
      · iexact HA2_src
      · iexact HB2_src
    isplitl [HA3_src]
    · iexact HA3_src
    · iexact HB3_src
  isplitl [HT']
  · iexact HT'
  isplitl [HD HO0_dst HO1_dst HP0_dst HP1_dst]
  · iapply (out_put4 c (resV c XL x) (4 * k.val) (by omega) (by omega))
    isplitl [HD]
    · iexact HD
    isplitl [HO0_dst]
    · iexact HO0_dst
    isplitl [HO1_dst]
    · iexact HO1_dst
    isplitl [HP0_dst]
    · iexact HP0_dst
    iexact HP1_dst
  isplitl [HD']
  · iexact HD'
  isplitl [HA0 HB0 HA1 HB1 HA2 HB2 HA3 HB3]
  · isplitl [HA0]
    · istop; exact sentA c XL l0M cc0_scratch8 _ (4 * k.val + 4) _ rfl
    isplitl [HB0]
    · istop; exact sentB c XL l0M cc0_scratch12 _ (4 * k.val + 4) _ rfl
    isplitl [HA1]
    · istop; exact sentA c XL l1M cc0_scratch9 _ (4 * k.val + 5) _ rfl
    isplitl [HB1]
    · istop; exact sentB c XL l1M cc0_scratch13 _ (4 * k.val + 5) _ rfl
    isplitl [HA2]
    · istop; exact sentA c XL l2M cc0_scratch10 _ (4 * k.val + 6) _ rfl
    isplitl [HB2]
    · istop; exact sentB c XL l2M cc0_scratch14 _ (4 * k.val + 6) _ rfl
    isplitl [HA3]
    · istop; exact sentA c XL l3M cc0_scratch11 _ (4 * k.val + 7) _ rfl
    istop; exact sentB c XL l3M cc0_scratch15 _ (4 * k.val + 7) _ rfl
  isplitl [HP2]
  · iexists p2; iexact HP2
  iexists p3; iexact HP3

/-- The first trip: as a middle one, nothing on its way out when it begins. -/
theorem trip_first (k : Fin k0_t1_loop.trips) (hk : k.val = 0) :
    atFirst c XL f0 (4 * k.val)
      ⊢ (wp frame (wpE (defs₀ (F := F)) 𝒱₀ (c : Thread nD τ) none) Set.univ (tripP x k) (fun _ => atMid c XL x f0 (4 * k.val + 4)) : sProp 𝕄) := by
  have h1 : ¬ k0_cond1 k = 1#1 := fun h => by have := (cond1_iff k).mp h; omega
  have h2 := (cond2_iff k).mpr (by omega)
  have h3 : ¬ k0_cond3 k = 1#1 := fun h => by have := (cond3_iff k).mp h; omega
  have h4 := (cond4_iff k).mpr (by omega)
  have h5 := (cond5_iff k).mpr (by omega)
  have h6 := (cond6_iff k).mpr (by omega)
  have h7 : ¬ k0_cond7 k = 1#1 := fun h => by have := (cond7_iff k).mp h; omega
  unfold atFirst atMid
  rw [lut_take c XL (4 * k.val + 4) (by omega), out_take c f0 (4 * k.val) (by omega)]
  iintro ⟨⟨%W, HW⟩, HT, ⟨HN0, HN1, HN2, HN3, HT'⟩, ⟨HR0, HR1, HR2, HR3, HD'⟩, ⟨HA0, HB0, HA1, HB1, HA2, HB2, HA3, HB3⟩, ⟨%g0, HG0⟩, ⟨%g1, HG1⟩, HO0, HO1⟩
  dsimp only [tripP]
  sl_unfold [k0_t1_body]
  sl_exec
  ihave HS0 := (slot_join c l0M (cont c l0M (blkV c XL (4 * k.val)))) $$ [HA0_dst HB0_dst]
  · isplitl [HA0_dst]
    · iexact HA0_dst
    · iexact HB0_dst
  sl_exec
  ihave ⟨%p0, HP0⟩ : iprop(∃ g, flyO c XL x o0M cc0_scratch16 g (4 * k.val)) $$ [HO0]
  · iexists _
    istop
    exact sentO c XL x o0M cc0_scratch16 f0 _ (4 * k.val) (by omega) _ (stored_prod c XL x l0M o0M g0 [] (4 * k.val))
  icases (slot_cut c l0M _) $$ HS0 with ⟨HS0a, HS0b⟩
  icases HN0 with ⟨HN0a, HN0b⟩
  sl_exec
  ihave HS1 := (slot_join c l1M (cont c l1M (blkV c XL (4 * k.val + 1)))) $$ [HA1_dst HB1_dst]
  · isplitl [HA1_dst]
    · iexact HA1_dst
    · iexact HB1_dst
  sl_exec
  ihave ⟨%p1, HP1⟩ : iprop(∃ g, flyO c XL x o1M cc0_scratch17 g (4 * k.val + 1)) $$ [HO1]
  · iexists _
    istop
    exact sentO c XL x o1M cc0_scratch17 f0 _ (4 * k.val + 1) (by omega) _ (stored_prod c XL x l1M o1M g1 [] (4 * k.val + 1))
  icases (slot_cut c l1M _) $$ HS1 with ⟨HS1a, HS1b⟩
  icases HN1 with ⟨HN1a, HN1b⟩
  sl_exec
  ihave HS2 := (slot_join c l2M (cont c l2M (blkV c XL (4 * k.val + 2)))) $$ [HA2_dst HB2_dst]
  · isplitl [HA2_dst]
    · iexact HA2_dst
    · iexact HB2_dst
  sl_exec
  ihave ⟨%p2, HP2⟩ : iprop(∃ g, flyO c XL x o0M cc0_scratch16 g (4 * k.val + 2)) $$ [HP0]
  · iexists _
    istop
    exact sentO c XL x o0M cc0_scratch16 f0 _ (4 * k.val + 2) (by omega) _ (stored_prod c XL x l2M o0M p0 [] (4 * k.val + 2))
  icases (slot_cut c l2M _) $$ HS2 with ⟨HS2a, HS2b⟩
  icases HN2 with ⟨HN2a, HN2b⟩
  sl_exec
  ihave HS3 := (slot_join c l3M (cont c l3M (blkV c XL (4 * k.val + 3)))) $$ [HA3_dst HB3_dst]
  · isplitl [HA3_dst]
    · iexact HA3_dst
    · iexact HB3_dst
  sl_exec
  ihave ⟨%p3, HP3⟩ : iprop(∃ g, flyO c XL x o1M cc0_scratch17 g (4 * k.val + 3)) $$ [HP1]
  · iexists _
    istop
    exact sentO c XL x o1M cc0_scratch17 f0 _ (4 * k.val + 3) (by omega) _ (stored_prod c XL x l3M o1M p1 [] (4 * k.val + 3))
  icases (slot_cut c l3M _) $$ HS3 with ⟨HS3a, HS3b⟩
  icases HN3 with ⟨HN3a, HN3b⟩
  sl_exec
  sl_step
  isplitl [HW]
  · iexists _; iexact HW
  isplitl [HT HA0_src HB0_src HA1_src HB1_src HA2_src HB2_src HA3_src HB3_src]
  · iapply (lut_put4 c XL (4 * k.val) (by omega))
    isplitl [HT]
    · iexact HT
    isplitl [HA0_src HB0_src]
    · isplitl [HA0_src]
      · iexact HA0_src
      · iexact HB0_src
    isplitl [HA1_src HB1_src]
    · isplitl [HA1_src]
      · iexact HA1_src
      · iexact HB1_src
    isplitl [HA2_src HB2_src]
    · isplitl [HA2_src]
      · iexact HA2_src
      · iexact HB2_src
    isplitl [HA3_src]
    · iexact HA3_src
    · iexact HB3_src
  isplitl [HT']
  · iexact HT'
  isplitl [HP0_dst HP1_dst]
  · iapply (out_put2 c (resV c XL x) (4 * k.val) (by omega))
    isplitl [HP0_dst]
    · iexact HP0_dst
    iexact HP1_dst
  isplitl [HD']
  · iexact HD'
  isplitl [HA0 HB0 HA1 HB1 HA2 HB2 HA3 HB3]
  · isplitl [HA0]
    · istop; exact sentA c XL l0M cc0_scratch8 _ (4 * k.val + 4) _ rfl
    isplitl [HB0]
    · istop; exact sentB c XL l0M cc0_scratch12 _ (4 * k.val + 4) _ rfl
    isplitl [HA1]
    · istop; exact sentA c XL l1M cc0_scratch9 _ (4 * k.val + 5) _ rfl
    isplitl [HB1]
    · istop; exact sentB c XL l1M cc0_scratch13 _ (4 * k.val + 5) _ rfl
    isplitl [HA2]
    · istop; exact sentA c XL l2M cc0_scratch10 _ (4 * k.val + 6) _ rfl
    isplitl [HB2]
    · istop; exact sentB c XL l2M cc0_scratch14 _ (4 * k.val + 6) _ rfl
    isplitl [HA3]
    · istop; exact sentA c XL l3M cc0_scratch11 _ (4 * k.val + 7) _ rfl
    istop; exact sentB c XL l3M cc0_scratch15 _ (4 * k.val + 7) _ rfl
  isplitl [HP2]
  · iexists p2; iexact HP2
  iexists p3; iexact HP3

/-- The last trip: nothing more asked for, and the last two blocks waited for. -/
theorem trip_last (k : Fin k0_t1_loop.trips) (hk : k.val + 1 = 25) :
    atMid c XL x f0 (4 * k.val)
      ⊢ (wp frame (wpE (defs₀ (F := F)) 𝒱₀ (c : Thread nD τ) none) Set.univ (tripP x k) (fun _ => atLast c XL x) : sProp 𝕄) := by
  have h1 := (cond1_iff k).mpr (by omega)
  have h3 := (cond3_iff k).mpr (by omega)
  have h7 := (cond7_iff k).mpr (by omega)
  have hk0 : 0 < k.val := by omega
  have e100 : 4 * k.val + 4 = 100 := by omega
  unfold atMid atLast
  rw [out_take c f0 (4 * k.val) (by omega), e100, lutR_none, outR_none]
  iintro ⟨⟨%W, HW⟩, HT, HT', HD, ⟨HR0, HR1, HR2, HR3, HD'⟩, ⟨HA0, HB0, HA1, HB1, HA2, HB2, HA3, HB3⟩, ⟨%g0, HO0⟩, ⟨%g1, HO1⟩⟩
  dsimp only [tripP]
  sl_unfold [k0_t1_body]
  sl_exec
  ihave HS0 := (slot_join c l0M (cont c l0M (blkV c XL (4 * k.val)))) $$ [HA0_dst HB0_dst]
  · isplitl [HA0_dst]
    · iexact HA0_dst
    · iexact HB0_dst
  sl_exec
  ihave ⟨%p0, HP0⟩ : iprop(∃ g, flyO c XL x o0M cc0_scratch16 g (4 * k.val)) $$ [HO0]
  · iexists _
    istop
    exact sentO c XL x o0M cc0_scratch16 f0 _ (4 * k.val) (by omega) _ (stored_prod c XL x l0M o0M g0 [] (4 * k.val))
  have h2 : ¬ k0_cond2 k = 1#1 := fun h => by have := (cond2_iff k).mp h; omega
  sl_exec
  ihave HS1 := (slot_join c l1M (cont c l1M (blkV c XL (4 * k.val + 1)))) $$ [HA1_dst HB1_dst]
  · isplitl [HA1_dst]
    · iexact HA1_dst
    · iexact HB1_dst
  clear h2
  sl_exec
  ihave ⟨%p1, HP1⟩ : iprop(∃ g, flyO c XL x o1M cc0_scratch17 g (4 * k.val + 1)) $$ [HO1]
  · iexists _
    istop
    exact sentO c XL x o1M cc0_scratch17 f0 _ (4 * k.val + 1) (by omega) _ (stored_prod c XL x l1M o1M g1 [] (4 * k.val + 1))
  have h4 : ¬ k0_cond4 k = 1#1 := fun h => by have := (cond4_iff k).mp h; omega
  sl_exec
  ihave HS2 := (slot_join c l2M (cont c l2M (blkV c XL (4 * k.val + 2)))) $$ [HA2_dst HB2_dst]
  · isplitl [HA2_dst]
    · iexact HA2_dst
    · iexact HB2_dst
  clear h4
  sl_exec
  ihave ⟨%p2, HP2⟩ : iprop(∃ g, flyO c XL x o0M cc0_scratch16 g (4 * k.val + 2)) $$ [HP0]
  · iexists _
    istop
    exact sentO c XL x o0M cc0_scratch16 f0 _ (4 * k.val + 2) (by omega) _ (stored_prod c XL x l2M o0M p0 [] (4 * k.val + 2))
  have h5 : ¬ k0_cond5 k = 1#1 := fun h => by have := (cond5_iff k).mp h; omega
  sl_exec
  ihave HS3 := (slot_join c l3M (cont c l3M (blkV c XL (4 * k.val + 3)))) $$ [HA3_dst HB3_dst]
  · isplitl [HA3_dst]
    · iexact HA3_dst
    · iexact HB3_dst
  clear h5
  sl_exec
  ihave ⟨%p3, HP3⟩ : iprop(∃ g, flyO c XL x o1M cc0_scratch17 g (4 * k.val + 3)) $$ [HP1]
  · iexists _
    istop
    exact sentO c XL x o1M cc0_scratch17 f0 _ (4 * k.val + 3) (by omega) _ (stored_prod c XL x l3M o1M p1 [] (4 * k.val + 3))
  have h6 : ¬ k0_cond6 k = 1#1 := fun h => by have := (cond6_iff k).mp h; omega
  sl_exec
  sl_step
  rw [← e100]
  isplitl [HW]
  · iexists _; iexact HW
  isplitl [HT HA0_src HB0_src HA1_src HB1_src HA2_src HB2_src HA3_src HB3_src]
  · iapply (lut_put4 c XL (4 * k.val) (by omega))
    isplitl [HT]
    · iexact HT
    isplitl [HA0_src HB0_src]
    · isplitl [HA0_src]
      · iexact HA0_src
      · iexact HB0_src
    isplitl [HA1_src HB1_src]
    · isplitl [HA1_src]
      · iexact HA1_src
      · iexact HB1_src
    isplitl [HA2_src HB2_src]
    · isplitl [HA2_src]
      · iexact HA2_src
      · iexact HB2_src
    isplitl [HA3_src]
    · iexact HA3_src
    · iexact HB3_src
  isplitl [HD HO0_dst HO1_dst HP0_dst HP1_dst HP2_dst HP3_dst]
  · iapply (out_put c (resV c XL x) (4 * k.val + 3) (by omega))
    isplitl [HD HO0_dst HO1_dst HP0_dst HP1_dst HP2_dst]
    · iapply (out_put c (resV c XL x) (4 * k.val + 2) (by omega))
      isplitl [HD HO0_dst HO1_dst HP0_dst HP1_dst]
      · iapply (out_put4 c (resV c XL x) (4 * k.val) (by omega) (by omega))
        isplitl [HD]
        · iexact HD
        isplitl [HO0_dst]
        · iexact HO0_dst
        isplitl [HO1_dst]
        · iexact HO1_dst
        isplitl [HP0_dst]
        · iexact HP0_dst
        iexact HP1_dst
      · iexact HP2_dst
    · iexact HP3_dst
  isplitl [HS0]
  · iexists _; iexact HS0
  isplitl [HS1]
  · iexists _; iexact HS1
  isplitl [HS2]
  · iexists _; iexact HS2
  isplitl [HS3]
  · iexists _; iexact HS3
  isplitl [HA0]
  · iexact HA0
  isplitl [HB0]
  · iexact HB0
  isplitl [HA1]
  · iexact HA1
  isplitl [HB1]
  · iexact HB1
  isplitl [HA2]
  · iexact HA2
  isplitl [HB2]
  · iexact HB2
  isplitl [HA3]
  · iexact HA3
  isplitl [HB3]
  · iexact HB3
  isplitl [HP2_src]
  · iexists p2; iexact HP2_src
  isplitl [HP3_src]
  · iexists p3; iexact HP3_src
  isplitl [HP2]
  · iexact HP2
  iexact HP3

end Trip

end Cert.KernelIdeal.Walk
-- ==== Proof.IdealBody.lean ====
/-
  The kernel's body: the activations are copied in and the first four blocks of the table asked for, the loop runs, and
  everything handed in comes back, the result's buffer holding every block's product.
-/
module

public import proofs.«01_k».proof.Proof.Body
public import proofs.«01_k».proof.Proof.IdealTrip

@[expose] public section

set_option maxRecDepth 16384

noncomputable section

namespace Cert.KernelIdeal.Walk

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UW nD τ) ℕ

section Loop
variable (c : Dev nD) (XL : Buf (Elt F) (lutM.view.loc (c : Thread nD τ))) (x : Vec F S1024x2048 .bf16)
  (f0 : Buf (Elt F) (outM.view.loc (c : Thread nD τ)))

/-- What holds before trip `k`, and after the loop at `k = 25`. -/
def before (k : ℕ) : sProp 𝕄 :=
  if k = 0 then atFirst c XL f0 (4 * k) else if k < 25 then atMid c XL x f0 (4 * k) else atLast c XL x

/-- What is held before the first trip. -/
theorem before_zero : before c XL x f0 0 = atFirst c XL f0 0 := rfl
/-- What is held after the last trip. -/
theorem before_end : before c XL x f0 k0_t1_loop.trips = atLast c XL x := by rw [trips_eq]; rfl
/-- What is held before every other trip. -/
theorem before_mid {k : ℕ} (h : 0 < k) (h' : k < 25) : before c XL x f0 k = atMid c XL x f0 (4 * k) := by
  unfold before; rw [if_neg (by omega), if_pos h']

/-- One trip takes what holds before it to what holds before the next. -/
theorem trip (k : Fin k0_t1_loop.trips) :
    before c XL x f0 k.val
      ⊢ (wp frame (wpE (defs₀ (F := F)) 𝒱₀ (c : Thread nD τ) none) Set.univ (tripP x k) (fun _ => before c XL x f0 (k.val + 1)) : sProp 𝕄) := by
  have hlt := trip_lt k
  by_cases h0 : k.val = 0
  · rw [before_mid c XL x f0 (show 0 < k.val + 1 by omega) (by omega), show 4 * (k.val + 1) = 4 * k.val + 4 by omega]
    rw [show before c XL x f0 k.val = atFirst c XL f0 (4 * k.val) by unfold before; rw [if_pos h0]]
    exact trip_first c XL x f0 k h0
  · rw [before_mid c XL x f0 (show 0 < k.val by omega) hlt]
    by_cases h1 : k.val + 1 = 25
    · rw [show before c XL x f0 (k.val + 1) = atLast c XL x by rw [h1]; rfl]
      exact trip_last c XL x f0 k h1
    · rw [before_mid c XL x f0 (show 0 < k.val + 1 by omega) (by omega), show 4 * (k.val + 1) = 4 * k.val + 4 by omega]
      exact trip_mid c XL x f0 k (by omega) (by omega)

set_option warn.classDefReducibility false in
/-- The loop's invariant. -/
@[sl_loop] def loopWalk : LoopInvTy_k0_t1 (F := F) Unit ℕ (UW nD τ) ℕ 𝒱₀ c none Set.univ actM (Memref.isWhole_whole _) lutM (Memref.isWhole_whole _)
    outM (Memref.isWhole_whole _) xM (Memref.isWhole_whole _) l0M (Memref.isWhole_whole _) l1M (Memref.isWhole_whole _) l2M (Memref.isWhole_whole _)
    l3M (Memref.isWhole_whole _) o0M (Memref.isWhole_whole _) o1M (Memref.isWhole_whole _) cc0_scratch7 cc0_scratch8 cc0_scratch9 cc0_scratch10
    cc0_scratch11 cc0_scratch12 cc0_scratch13 cc0_scratch14 cc0_scratch15 cc0_scratch16 cc0_scratch17 x where
  inv k _ := before c XL x f0 k
  step k _ := trip c XL x f0 k

end Loop

section Body
variable (c : Dev nD) (XA : Buf (Elt F) (actM.view.loc (c : Thread nD τ))) (XL : Buf (Elt F) (lutM.view.loc (c : Thread nD τ)))
  (f0 : Buf (Elt F) (outM.view.loc (c : Thread nD τ)))

/-- The activations as the kernel loads them. -/
def actV : Vec F S1024x2048 .bf16 := XA

/-- A buffer held whole. -/
abbrev whole (b : Ref sig .tc) (f : Buf (Elt F) ((Memref.whole b).view.loc (c : Thread nD τ))) : sProp 𝕄 :=
  (Memref.whole b).view.loc (c : Thread nD τ) ↦[(Memref.whole b).view.set]{fullShare} f

/-- The kernel's buffers and semaphores, free. -/
def scratch : sProp 𝕄 :=
  iprop((∃ f, whole c cc0_scratch0 f) ∗ (∃ f, slot c l0M f) ∗ (∃ f, slot c l1M f) ∗ (∃ f, slot c l2M f) ∗ (∃ f, slot c l3M f)
    ∗ (∃ g, stg c o0M g) ∗ (∃ g, stg c o1M g) ∗ cell c cc0_scratch7
    ∗ cell c cc0_scratch8 ∗ cell c cc0_scratch9 ∗ cell c cc0_scratch10 ∗ cell c cc0_scratch11
    ∗ cell c cc0_scratch12 ∗ cell c cc0_scratch13 ∗ cell c cc0_scratch14 ∗ cell c cc0_scratch15
    ∗ cell c cc0_scratch16 ∗ cell c cc0_scratch17)

/-- The body, on the buffers of the call. -/
abbrev bodyP : Prog (TpuEff nD τ sig (Elt F) Λ₀ .tc) PUnit :=
  cc0__body actM (Memref.isWhole_whole _) lutM (Memref.isWhole_whole _) outM (Memref.isWhole_whole _) xM (Memref.isWhole_whole _)
    l0M (Memref.isWhole_whole _) l1M (Memref.isWhole_whole _) l2M (Memref.isWhole_whole _) l3M (Memref.isWhole_whole _)
    o0M (Memref.isWhole_whole _) o1M (Memref.isWhole_whole _) cc0_scratch7 cc0_scratch8 cc0_scratch9 cc0_scratch10 cc0_scratch11
    cc0_scratch12 cc0_scratch13 cc0_scratch14 cc0_scratch15 cc0_scratch16 cc0_scratch17

/-- The activations copied into the kernel's buffer and loaded whole are the activations. -/
theorem loaded :
    xM.view.readCov [⟨Rect.whole S1024x2048, ReadAs.same.apply (actM.view.read (Elt F) XA)⟩]
      (Rect.unit (s := S1024x2048) ![0, 0] S1024x2048.size inb_S1024x2048_S1024x2048_0_0).toLoadRect = actV c XA := by
  funext y
  show xM.view.readAt (Elt F) _ (xM.view.writes (Elt F) xM.view.junk _) y = _
  rw [View.readAt_apply]
  refine (read_written c xM _ _ [] _).trans ?_
  show actV c XA _ = actV c XA y
  refine congrArg (actV c XA) (funext fun a => Fin.ext ?_)
  fin_cases a
  · show 0 + 1 * (y 0).val = (y 0).val; omega
  · show 0 + 1 * (y 1).val = (y 1).val; omega

attribute [local irreducible] before in
/-- The body leaves the activations and the table as they were and the result's buffer at the whole result. -/
theorem body_run (W : Waits sig Unit) (Q : PUnit → sProp 𝕄) :
    iprop((whole c main_v0 XA ∗ lutR c XL 0 100 ∗ outR c 0 100 f0 ∗ scratch c ∗ owes (c : Thread nD τ) 0 W)
        ∗ ((whole c main_v0 XA ∗ lutR c XL 0 100 ∗ outR c 0 100 (resV c XL (actV c XA)) ∗ scratch c ∗ ∃ W, owes (c : Thread nD τ) 0 W) -∗ Q ⟨⟩))
      ⊢ wp frame (wpE (defs₀ (F := F)) 𝒱₀ (c : Thread nD τ) none) Set.univ (bodyP (F := F)) Q := by
  unfold scratch
  iintro ⟨⟨HX, HL, HD, ⟨⟨%fx, Hx⟩, ⟨%s0, HS0⟩, ⟨%s1, HS1⟩, ⟨%s2, HS2⟩, ⟨%s3, HS3⟩, Ho0, Ho1, HC7,
    HA0, HA1, HA2, HA3, HB0, HB1, HB2, HB3, HC16, HC17⟩, HW⟩, Hk⟩
  icases (Entails.of_eq (lut_take c XL 0 (by decide))) $$ HL with ⟨⟨Ha0, Hb0⟩, ⟨Ha1, Hb1⟩, ⟨Ha2, Hb2⟩, ⟨Ha3, Hb3⟩, HT⟩
  icases (slot_cut c l0M _) $$ HS0 with ⟨HS0a, HS0b⟩
  icases (slot_cut c l1M _) $$ HS1 with ⟨HS1a, HS1b⟩
  icases (slot_cut c l2M _) $$ HS2 with ⟨HS2a, HS2b⟩
  icases (slot_cut c l3M _) $$ HS3 with ⟨HS3a, HS3b⟩
  dsimp only [bodyP]
  sl_unfold [cc0__body]
  sl_exec
  have e : body_run.sl.v16 c XA = actV c XA := loaded c XA
  ihave HI : before c XL (body_run.sl.v16 c XA) f0 0 $$ [HW HT HD HA0 HB0 HA1 HB1 HA2 HB2 HA3 HB3 Ho0 Ho1 HC16 HC17]
  · rw [before_zero]
    unfold atFirst slotsFly
    isplitl [HW]
    · iexists _; iexact HW
    isplitl []
    · irw [lutR_none]; iempintro
    isplitl [HT]
    · iexact HT
    isplitl [HD]
    · iexact HD
    isplitl [HA0 HB0 HA1 HB1 HA2 HB2 HA3 HB3]
    · isplitl [HA0]
      · istop; exact sentA c XL l0M cc0_scratch8 _ 0 _ rfl
      isplitl [HB0]
      · istop; exact sentB c XL l0M cc0_scratch12 _ 0 _ rfl
      isplitl [HA1]
      · istop; exact sentA c XL l1M cc0_scratch9 _ 1 _ rfl
      isplitl [HB1]
      · istop; exact sentB c XL l1M cc0_scratch13 _ 1 _ rfl
      isplitl [HA2]
      · istop; exact sentA c XL l2M cc0_scratch10 _ 2 _ rfl
      isplitl [HB2]
      · istop; exact sentB c XL l2M cc0_scratch14 _ 2 _ rfl
      isplitl [HA3]
      · istop; exact sentA c XL l3M cc0_scratch11 _ 3 _ rfl
      istop; exact sentB c XL l3M cc0_scratch15 _ 3 _ rfl
    isplitl [Ho0]
    · iexact Ho0
    isplitl [Ho1]
    · iexact Ho1
    isplitl [HC16]
    · iexact HC16
    iexact HC17
  sl_exec
  sl_step
  ihave HE := (Entails.of_eq ((congrArg (fun x => before c XL x f0 k0_t1_loop.trips) e).trans (before_end c XL (actV c XA) f0))) $$ HI
  unfold atLast
  icases HE with ⟨HW, HL, HD, HS0, HS1, HS2, HS3, C8, C12, C9, C13, C10, C14, C11, C15, Ho0, Ho1, C16, HC17⟩
  iapply Hk
  isplitl [HX]
  · iexact HX
  isplitl [HL]
  · iexact HL
  isplitl [HD]
  · iexact HD
  isplitl [Hx HS0 HS1 HS2 HS3 Ho0 Ho1 HC7 C8 C9 C10 C11 C12 C13 C14 C15 C16 HC17]
  · isplitl [Hx]
    · iexists _; iexact Hx
    isplitl [HS0]
    · iexact HS0
    isplitl [HS1]
    · iexact HS1
    isplitl [HS2]
    · iexact HS2
    isplitl [HS3]
    · iexact HS3
    isplitl [Ho0]
    · iexact Ho0
    isplitl [Ho1]
    · iexact Ho1
    isplitl [HC7]
    · iexact HC7
    isplitl [C8]
    · iexact C8
    isplitl [C9]
    · iexact C9
    isplitl [C10]
    · iexact C10
    isplitl [C11]
    · iexact C11
    isplitl [C12]
    · iexact C12
    isplitl [C13]
    · iexact C13
    isplitl [C14]
    · iexact C14
    isplitl [C15]
    · iexact C15
    isplitl [C16]
    · iexact C16
    iexact HC17
  iexact HW

end Body

end Cert.KernelIdeal.Walk
-- ==== Proof.IdealLaunch.lean ====
/-
  The launch: `@main` rounds the activations, runs the kernel's body once and turns its result; every run of it ends with the
  arguments as they were, the counters at zero and the result's buffer turned.
-/
module

public import proofs.«01_k».proof.Proof.Launch
public import proofs.«01_k».proof.Proof.IdealBody
public import proofs.«01_k».proof.Proof.Gen.KernelIdeal.Frame
public import Idealize.ShloMosaic.Lib.Pipeline.FrameSuffixV

@[expose] public section

set_option maxRecDepth 16384

noncomputable section

namespace Cert.KernelIdeal.Walk

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UW nD τ) ℕ

variable (m : (ℓ : Loc nD τ sig) → Buf (Elt F) ℓ) (ρ : Dev nD → PrngReg)

/-- The kernel's own semaphores. -/
abbrev osem : Fin 11 → SemLoc sig := fun s => .dma s
/-- The kernel's eleven semaphores are its own, each its own counter. -/
theorem own_sems : Pipeline.OwnSemFacts (cfgs 0).spec osem := by decide

/-- The buffers the body reads in place. -/
abbrev readIn : Finset (Ref sig .tc) := {main_arg2, main_v0}
/-- The buffer the body writes in place. -/
abbrev wroteIn : Finset (Ref sig .tc) := {main_v1}
/-- The buffers the kernel reads are among those it is handed. -/
theorem readIn_rest : readIn ⊆ Pipeline.restRefs sig (cfgs 0).spec := by decide
/-- The buffer the kernel writes is among those it is handed and is none of those it reads. -/
theorem wroteIn_rest : wroteIn ⊆ Pipeline.restRefs sig (cfgs 0).spec \ readIn := by decide

/-- The kernel's result: every block's product, from the activations as rounded and the table as launched. -/
def resM (c : Dev nD) : Buf (Elt F) ((c : Thread nD τ).loc main_v1) := resV c (V m c main_arg2) (actV c (V m c main_v0))
/-- The buffers when the body is over. -/
def endV (c : Dev nD) : (b : Ref sig .tc) → Buf (Elt F) ((c : Thread nD τ).loc b) := Function.update (V m c) main_v1 (resM m c)
/-- When the body is over the result's buffer holds every block's product. -/
theorem endV_out (c : Dev nD) : endV m c main_v1 = resM m c := Function.update_self ..

/-- A buffer held whole, written as its memref's elements. -/
theorem whole_eq (c : Dev nD) (b : Ref sig .tc) (f : Buf (Elt F) ((c : Thread nD τ).loc b)) :
    (((c : Thread nD τ).loc b) ↦{fullShare} f : sProp 𝕄) = whole c b f := by
  unfold whole; rw [View.set_whole]

/-- The kernel's semaphores at zero, one by one. -/
theorem own_cells (c : Dev nD) : (Pipeline.ownSems0 (Ix := Unit) (Name := ℕ) (U := UW nD τ) (Lvl := ℕ) (Val := Elt F) (τ := τ) osem c : sProp 𝕄)
    = iprop(cell c cc0_scratch7 ∗ cell c cc0_scratch8 ∗ cell c cc0_scratch9 ∗ cell c cc0_scratch10 ∗ cell c cc0_scratch11
      ∗ cell c cc0_scratch12 ∗ cell c cc0_scratch13 ∗ cell c cc0_scratch14 ∗ cell c cc0_scratch15 ∗ cell c cc0_scratch16 ∗ cell c cc0_scratch17) := by
  unfold Pipeline.ownSems0
  exact bigSep_univ_eq_bigSepL [(0 : Fin 11), 1, 2, 3, 4, 5, 6, 7, 8, 9, 10] (by decide) (by decide) _

/-- The two buffers read in place, apart. -/
theorem read_two (Φ : Ref sig .tc → sProp 𝕄) : bigSep readIn Φ = iprop(Φ main_arg2 ∗ Φ main_v0) := by
  rw [bigSep_insert (by decide), bigSep_singleton]; rfl

/-- What the launch hands the body, and takes back with the result's buffer at `G`. -/
abbrev hands (G : (c : Dev nD) → (b : Ref sig .tc) → Buf (Elt F) ((c : Thread nD τ).loc b)) (c : Dev nD) : sProp 𝕄 :=
  Pipeline.ΦDRV osem (cfgs 0).spec readIn wroteIn (V m) G c

/-- which is the two buffers it reads, the one it writes, and its own. -/
theorem hands_eq (G : (c : Dev nD) → (b : Ref sig .tc) → Buf (Elt F) ((c : Thread nD τ).loc b)) (c : Dev nD) :
    hands m G c ⊣⊢ (iprop(whole c main_v0 (V m c main_v0) ∗ lutR c (V m c main_arg2) 0 100 ∗ outR c 0 100 (G c main_v1) ∗ scratch c) : sProp 𝕄) := by
  unfold hands Pipeline.ΦDRV scratch
  rw [scopedRest0_eq, own_cells, read_two, bigSep_singleton, lutR_all, outR_all]
  simp only [whole_eq]
  constructor
  · iintro ⟨⟨H0, H1, H2, H3, H4, H5, H6⟩, ⟨C7, C8, C9, C10, C11, C12, C13, C14, C15, C16, C17⟩, ⟨HL, HX⟩, HD⟩
    isplitl [HX]
    · iexact HX
    isplitl [HL]
    · iexact HL
    isplitl [HD]
    · iexact HD
    isplitl [H0]
    · iexact H0
    isplitl [H1]
    · iexact H1
    isplitl [H2]
    · iexact H2
    isplitl [H3]
    · iexact H3
    isplitl [H4]
    · iexact H4
    isplitl [H5]
    · iexact H5
    isplitl [H6]
    · iexact H6
    isplitl [C7]
    · iexact C7
    isplitl [C8]
    · iexact C8
    isplitl [C9]
    · iexact C9
    isplitl [C10]
    · iexact C10
    isplitl [C11]
    · iexact C11
    isplitl [C12]
    · iexact C12
    isplitl [C13]
    · iexact C13
    isplitl [C14]
    · iexact C14
    isplitl [C15]
    · iexact C15
    isplitl [C16]
    · iexact C16
    iexact C17
  · iintro ⟨HX, HL, HD, H0, H1, H2, H3, H4, H5, H6, C7, C8, C9, C10, C11, C12, C13, C14, C15, C16, C17⟩
    isplitl [H0 H1 H2 H3 H4 H5 H6]
    · isplitl [H0]
      · iexact H0
      isplitl [H1]
      · iexact H1
      isplitl [H2]
      · iexact H2
      isplitl [H3]
      · iexact H3
      isplitl [H4]
      · iexact H4
      isplitl [H5]
      · iexact H5
      iexact H6
    isplitl [C7 C8 C9 C10 C11 C12 C13 C14 C15 C16 C17]
    · isplitl [C7]
      · iexact C7
      isplitl [C8]
      · iexact C8
      isplitl [C9]
      · iexact C9
      isplitl [C10]
      · iexact C10
      isplitl [C11]
      · iexact C11
      isplitl [C12]
      · iexact C12
      isplitl [C13]
      · iexact C13
      isplitl [C14]
      · iexact C14
      isplitl [C15]
      · iexact C15
      isplitl [C16]
      · iexact C16
      iexact C17
    isplitl [HL HX]
    · isplitl [HL]
      · iexact HL
      iexact HX
    iexact HD

/-- The launch's data: before the one point the body is handed its buffers as they are, after it the result is there. -/
def dats (_ : Fin 1) (c : Dev nD) : Dat τ (Elt F) Unit ℕ (UW nD τ) ℕ cfg0 c where
  A w := w.elim0
  after w _ := w.elim0
  Φ t := if t.val = 0 then hands m (V m) c else hands m (endV m) c
  q _ := fullShare
  owed _ := 0

/-- What the body is handed. -/
theorem dats_first (c : Dev nD) : (dats m 0 c).Φ (Fin.castSucc t0_0) = hands m (V m) c := rfl
/-- What the body hands back. -/
theorem dats_last (c : Dev nD) : (dats m 0 c).Φ (Fin.succ t0_0) = hands m (endV m) c := rfl

/-- The body table's entry is the body. -/
theorem defs_body : (defs₀ (F := F)) .tc cfg0.body = fun _ => bodyP (F := F) := rfl

set_option backward.isDefEq.respectTransparency.types false in
/-- The body does what the launch's data says. -/
theorem body_does (c : Dev nD) : BodyObligation (dats (F := F) m 0 c) (defs₀ (F := F)) 𝒱₀ () Set.univ := fun t => by
  obtain rfl : t = t0_0 := fin_N0 t
  dsimp only
  rw [dats_first, dats_last]
  unfold Dat.owesAt Pipeline.owesWithin
  rw [show (dats m 0 c).owed (Fin.castSucc t0_0) = 0 from rfl, show (dats m 0 c).owed (Fin.succ t0_0) = 0 from rfl]
  iintro ⟨HH, ⟨%W, -, HW⟩, HE⟩
  icases (hands_eq m (V m) c).1 $$ HH with ⟨HX, HL, HD, HS⟩
  sl_rw [show (defs₀ (F := F)) .tc cfg0.body (cfg0.bodyArgs t0_0 (cfg0.slots t0_0)) = bodyP (F := F) from congrFun defs_body _]
  iapply (body_run c (V m c main_v0) (V m c main_arg2) (V m c main_v1) W)
  isplitl [HX HL HD HS HW]
  · isplitl [HX]
    · iexact HX
    isplitl [HL]
    · iexact HL
    isplitl [HD]
    · iexact HD
    isplitl [HS]
    · iexact HS
    iexact HW
  · iintro ⟨HX, HL, HD, HS, ⟨%W', HW⟩⟩
    isplitl [HX HL HD HS]
    · iapply (hands_eq m (endV m) c).2
      irw [endV_out]
      isplitl [HX]
      · iexact HX
      isplitl [HL]
      · iexact HL
      isplitl [HD]
      · iexact HD
      iexact HS
    isplitl [HW]
    · iexists W'
      isplitr
      · ipureintro; exact fun _ _ => Or.inl trivial
      iexact HW
    iexact HE

/-- The buffers when `@main` is over. -/
abbrev overV (c : Dev nD) : Valuation τ sig (Elt F) := StableHlo.after (List.flatten [hostOps1])
  (Pipeline.withArrays (cfgs 0).spec c (Pipeline.withR (V0 m c) wroteIn c (endV m c)) fun w => (dats m 0 c).arrAt w (cfgs 0).N)

/-- A buffer neither written by the body nor by a host operation is as launched. -/
theorem over_arg (c : Dev nD) (b : Ref sig .tc) (h1 : b ≠ main_v1) (h2 : b ≠ main_v2) : overV m c (Proc.devRef .tc b) = V m c b := by
  unfold overV
  rw [StableHlo.after_of_forall_not_mem, Pipeline.withArrays_of_ne _ _ _ _ _ (fun w => w.elim0), Pipeline.withR_of_not_mem _ _ _ _ _ (by simpa using h1)]
  intro op hop
  simp only [hostOps1, List.flatten_cons, List.flatten_nil, List.append_nil, List.mem_singleton] at hop
  subst hop
  rw [StableHlo.unary_writes, Finset.mem_singleton]
  exact StableHlo.devRef_ne_of_ne h2

/-- The result is what the body wrote, turned. -/
theorem over_out (c : Dev nD) : overV m c (Proc.devRef .tc main_v2)
    = transpose S1024x100000 [1, 0] (resM m c) transposes_S100000x1024_S1024x100000_1_0 := by
  unfold overV
  simp only [hostOps1, List.flatten_cons, List.flatten_nil, List.append_nil, StableHlo.after_cons, StableHlo.after_nil]
  rw [StableHlo.unary_result, Pipeline.withArrays_of_ne _ _ _ _ _ (fun w => w.elim0), Pipeline.withR_of_mem _ _ _ _ _ (by simp), endV_out]

/-- What every run of `@main` ends with. -/
def Ends (r : PUnit × MemSt nD τ sig (Elt F)) : Prop :=
  (∀ c : Dev nD, r.2.mem ((c : Thread nD τ).loc main_v2) = transpose S1024x100000 [1, 0] (resM m c) transposes_S100000x1024_S1024x100000_1_0
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2))
  ∧ r.2.sem = fun _ => 0

set_option backward.isDefEq.respectTransparency.types false in
/-- Every run of `@main` ends, with the result the turned products, the arguments unchanged, every counter at zero. -/
theorem main_ends : θ_run defs (onTc (τ := τ) (main (F := F))) ⟨m, fun _ => 0, ρ⟩ (Ends m) :=
  Pipeline.θ_run_frame_dmaR_aroundV cfgs (dats m) 0 launch0 osem defs₀ 𝒱₀ own_sems readIn wroteIn readIn_rest wroteIn_rest m ρ main
    (fun c => (body_does m c).loose) (fun _ w => w.elim0) (fun _ _ => rfl) (V0 m) [hostOps1] sfx_sub sfx_fresh sfx_keeps (endV m)
    (Pipeline.hmain_around cfgs 0 defs₀ 𝒱₀ m main [hostOps0] [hostOps1] (by simp only [List.Forall]; exact hostOps0_sub)
      (by simp only [List.Forall]; exact hostOps0_fresh) main_chain)
    (fun _ w => w.elim0) (fun _ => .rfl) (fun _ => .rfl) (Ends m)
    (fun r h => ⟨fun c => ⟨((h.1 c).2 main_v2 (by decide)).trans (over_out m c),
      ((h.1 c).2 main_arg0 (by decide)).trans ((over_arg m c _ (by decide) (by decide)).trans (V_main_arg0 m c)),
      ((h.1 c).2 main_arg1 (by decide)).trans ((over_arg m c _ (by decide) (by decide)).trans (V_main_arg1 m c)),
      ((h.1 c).2 main_arg2 (by decide)).trans ((over_arg m c _ (by decide) (by decide)).trans (V_main_arg2 m c))⟩, h.2⟩)

end Cert.KernelIdeal.Walk
-- ==== Proof.Value.lean ====
/-
  The value of the result over the extended reals: entry (b, n) of the kernel's result and of the reference's is the sum
  over k of x[b, k] · LUT[n, k].
-/
module

public import proofs.«01_k».proof.Proof.IdealLaunch
public import proofs.«01_k».proof.Proof.Gen.ReferenceIdeal
public import Idealize.ShloMosaic.Lib.MatmulPlain
public import Idealize.ShloMosaic.Lib.StackMember
public import Idealize.ShloMosaic.Lib.Pipeline.Value
public import Idealize.ShloMosaic.PureOps.Ideal.Laws

@[expose] public section

set_option maxRecDepth 16384

noncomputable section

namespace Cert.KernelIdeal.Walk

open Cert.KernelIdeal Cert.KernelIdeal.Gen
open Idealize.ShloMosaic
open Idealize.ShloMosaic.TcCoe Idealize.ShloMosaic.ValueIdx

/-! ## The two products, read at an entry -/

/-- Entry (r, q) of one block of the kernel's result: row r of the block of the table against row q of the activations. -/
theorem pay_apply (x : Vec Ideal S1024x2048 .bf16) (v : Vec Ideal S1000x2048 .f32) (r : Fin 1000) (q : Fin 1024) :
    k0_pay1 (F := Ideal) x v (ix2 r q) = ∑ k : Fin 2048, v (ix2 r k) * x (ix2 q k) := by
  rw [show k0_pay1 (F := Ideal) x v = matmul (DotDims.transposedRhs 1000 2048 1024) none (truncf .bf16 v bitsLt_bf16_f32) x
      (constant S1000x1024 .f32 0x00000000#32) from shapeCast_self _ _]
  refine (Ideal.matmul_transposedRhs_apply none _ _ _ r q).trans ?_
  rw [show (constant (F := Ideal) S1000x1024 .f32 0x00000000#32) (ix2 r q) = 0 from Ideal.ofBits_zero_f32, zero_add]
  rfl

/-- Entry (b, n) of the reference's result: row b of the activations against row n of the table. -/
theorem ref_apply (x : FVec Ideal S1024x2048 .f32) (l : FVec Ideal S100000x2048 .f32) (b : Fin 1024) (n : Fin 100000) :
    Host.dotGeneral Cert.ReferenceIdeal.dot_S1024x2048_S2048x100000_S1024x100000_1_0_0_1_n_n none x
      (transpose Cert.ReferenceIdeal.S2048x100000 [1, 0] l Cert.ReferenceIdeal.Facts₀.transposes_S100000x2048_S2048x100000_1_0) (ix2 b n)
      = ∑ k : Fin 2048, x (ix2 b k) * l (ix2 n k) := by
  refine (StackMember.dotGeneral_plain_apply none x _ b n).trans (Finset.sum_congr rfl fun k _ => congrArg (x (ix2 b k) * ·) ?_)
  refine transpose_apply [1, 0] l _ (ix2 k n) (ix2 n k) fun a => ?_
  match a with
  | ⟨0, _⟩ => rfl
  | ⟨1, _⟩ => rfl

/-! ## The kernel's whole result -/

variable (m : (ℓ : Loc nD τ sig) → Buf (Elt Ideal) ℓ)

/-- The activations argument on a device. -/
def argX (c : Dev nD) : FVec Ideal S1024x2048 .f32 := m ((c : Thread nD τ).loc main_arg0)
/-- The table argument on a device. -/
def argL (c : Dev nD) : FVec Ideal S100000x2048 .f32 := m ((c : Thread nD τ).loc main_arg2)

/-- The activations the kernel is launched on are the argument's: a change of format changes no extended real. -/
theorem V_x (c : Dev nD) : (V m c main_v0 : FVec Ideal S1024x2048 .bf16) = truncf .bf16 (argX m c) bitsLt_bf16_f32 := by
  show StableHlo.after (List.flatten [hostOps0]) (fun b => m (c, b)) (Proc.devRef .tc main_v0) = _
  simp only [List.flatten_cons, List.flatten_nil, List.append_nil, hostOps0]
  rw [StableHlo.after_cons, StableHlo.after_nil, StableHlo.unary_result]
  rfl

/-- The kernel's whole result, before it is transposed. -/
def resT (c : Dev nD) : FVec Ideal S100000x1024 .f32 := resM m c

/-- Entry (n, b) of the kernel's result, before it is transposed: row n of the table against row b of the activations. -/
theorem res_apply (c : Dev nD) (n : Fin 100000) (b : Fin 1024) :
    resT m c (ix2 n b) = ∑ k : Fin 2048, argL m c (ix2 n k) * argX m c (ix2 b k) := by
  have hn := n.isLt
  have hi : inBlk (ix2 n b) = ix2 (⟨n.val % 1000, Nat.mod_lt _ (by decide)⟩ : Fin 1000) b := by
    refine funext fun a => ?_
    match a with
    | ⟨0, _⟩ => rfl
    | ⟨1, _⟩ => rfl
  show prodV c (V m c main_arg2) (actV c (V m c main_v0)) (n.val / 1000) (inBlk (ix2 n b)) = _
  rw [hi]
  refine (pay_apply _ _ _ _).trans (Finset.sum_congr rfl fun k _ => ?_)
  refine congrArg₂ (· * ·) ?_ (congrFun (V_x m c) (ix2 b k))
  refine (blkV_apply c _ (n.val / 1000) (ix2 ⟨n.val % 1000, Nat.mod_lt _ (by decide)⟩ k) (ix2 n k)
    (show n.val = 1000 * (n.val / 1000 % 100) + n.val % 1000 by omega) rfl).trans ?_
  exact congrFun (V_main_arg2 m c) (ix2 n k)

/-- The kernel's transposed result is the reference's product of the activations with the transposed table. -/
theorem value (c : Dev nD) :
    transpose S1024x100000 [1, 0] (resT m c) transposes_S100000x1024_S1024x100000_1_0
      = Host.dotGeneral (F := Ideal) Cert.ReferenceIdeal.dot_S1024x2048_S2048x100000_S1024x100000_1_0_0_1_n_n none (argX m c)
          (transpose Cert.ReferenceIdeal.S2048x100000 [1, 0] (argL m c) Cert.ReferenceIdeal.Facts₀.transposes_S100000x2048_S2048x100000_1_0) := by
  refine funext fun i => ?_
  obtain ⟨b, n, rfl⟩ : ∃ (b : Fin 1024) (n : Fin 100000), i = ix2 b n := ⟨_, _, eq_ix2 i⟩
  refine (transpose_apply [1, 0] (resT m c) transposes_S100000x1024_S1024x100000_1_0 (ix2 b n) (ix2 n b) fun a => ?_).trans
    ((res_apply m c n b).trans (Eq.trans ?_ (ref_apply (argX m c) (argL m c) b n).symm))
  · match a with
    | ⟨0, _⟩ => rfl
    | ⟨1, _⟩ => rfl
  · exact Finset.sum_congr rfl fun k _ => mul_comm _ _

end Cert.KernelIdeal.Walk

end
-- ==== Proof.lean ====
/-
  The claim: the program and its ideal form run to an end and leave their arguments and every counter as they found them, and
  so does the reference; the ideal form differs from the program in no operation; and the ideal form's result is the
  reference's.
-/
module

public import proofs.«01_k».proof.Defs
public import proofs.«01_k».proof.Proof.Launch
public import proofs.«01_k».proof.Proof.IdealLaunch
public import proofs.«01_k».proof.Proof.Value
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The program runs to an end and leaves its three arguments as they were and every counter at zero. -/
theorem frame_kernel : Cert.quiescent_Kernel := fun m ρ _ =>
  (θ_run Cert.Kernel.defs _ _).mono (fun _ h => ⟨fun c => (h.1 c).2, h.2⟩) (Cert.Kernel.Walk.main_ends m ρ)

/-- The program's ideal form runs to an end and leaves its three arguments as they were and every counter at zero. -/
theorem frame_ideal : Cert.quiescent_KernelIdeal := fun m ρ _ =>
  (θ_run Cert.KernelIdeal.defs _ _).mono (fun _ h => ⟨fun c => (h.1 c).2, h.2⟩) (Cert.KernelIdeal.Walk.main_ends m ρ)

/-- The reference runs to an end and leaves its three arguments as they were; its counters are at zero because it has
    none. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The ideal form's result is the reference's, entry by entry: over the extended reals both are the product of the
    activations with the transposed table. -/
theorem same_value : Cert.algebraic_KernelIdeal_ReferenceIdeal := by
  intro m ρ m' ρ' _ hm
  refine ⟨fun c => transpose Cert.KernelIdeal.S1024x100000 [1, 0] (Cert.KernelIdeal.Walk.resT m c)
    Cert.KernelIdeal.Facts₀.transposes_S100000x1024_S1024x100000_1_0, ?_, ?_⟩
  · exact (θ_run Cert.KernelIdeal.defs _ _).mono (fun _ h => h.1) (Cert.KernelIdeal.Walk.main_ends m ρ)
  · refine (θ_run Cert.ReferenceIdeal.defs _ _).mono (fun r h c => ⟨?_, (h c).2⟩) (Cert.ReferenceIdeal.Value.run m' ρ')
    refine (h c).1.trans (Eq.trans ?_ (Cert.KernelIdeal.Walk.value m c).symm)
    rw [(hm c).1, (hm c).2.2]
    rfl

/-- The five claims together. -/
theorem claim : Cert.Claim := ⟨Cert.Kernel.Gen.facts, Cert.KernelIdeal.Gen.facts, Cert.ReferenceIdeal.Gen.facts,
  frame_kernel, frame_ideal, frame_reference, trivial, same_value⟩

end Cert.Proof

end
